-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v358) = v0 c
          ∧ r.2.mem ((c.tc : Thread Cert.ReferenceIdeal.nD Cert.ReferenceIdeal.τ).loc Cert.ReferenceIdeal.main_v380) = v1 c
          ∧ r.2.mem ((c.tc : Thread Cert.ReferenceIdeal.nD Cert.ReferenceIdeal.τ).loc Cert.ReferenceIdeal.main_v383) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S16x8400x80 : Shape := ⟨3, ![16, 8400, 80]⟩
abbrev S16x8400x4 : Shape := ⟨3, ![16, 8400, 4]⟩
abbrev S8400x2 : Shape := ⟨2, ![8400, 2]⟩
abbrev S16x32x1 : Shape := ⟨3, ![16, 32, 1]⟩
abbrev S16x32x4 : Shape := ⟨3, ![16, 32, 4]⟩
abbrev S_ : Shape := ⟨0, ![]⟩

class Facts : Prop where
  bcast_S_S16x8400x80 : S_.BroadcastsInDim S16x8400x80 (![] : Fin 0 → Fin S16x8400x80.rank)
  reducesTo_S16x8400x80_S_d0_1_2 : S16x8400x80.ReducesTo [0, 1, 2] S_
  h_S_ : 0 < S_.numel
  bcast_S_S16x8400x4 : S_.BroadcastsInDim S16x8400x4 (![] : Fin 0 → Fin S16x8400x4.rank)
  reducesTo_S16x8400x4_S_d0_1_2 : S16x8400x4.ReducesTo [0, 1, 2] S_
  bcast_S_S16x32x4 : S_.BroadcastsInDim S16x32x4 (![] : Fin 0 → Fin S16x32x4.rank)
  reducesTo_S16x32x4_S_d0_1_2 : S16x32x4.ReducesTo [0, 1, 2] S_
  bcast_S_S16x32x1 : S_.BroadcastsInDim S16x32x1 (![] : Fin 0 → Fin S16x32x1.rank)
  reducesTo_S16x32x1_S_d0_1_2 : S16x32x1.ReducesTo [0, 1, 2] S_

variable [Facts]

def fn_part1 {F : FTy → Type} [FloatOps F] (main_arg3 : IVec S16x32x1 32) (main_v12 : IVec S_ 1) (main_v15 : IVec S_ 1) : IVec S_ 1 :=
  let main_v16 : IVec S_ 1 := andi main_v12 main_v15
  let main_c_6 : IVec S_ 32 := constantI S_ 32 80#32
  let main_v17 : IVec S16x32x1 32 := broadcastInDim S16x32x1 ![] bcast_S_S16x32x1 main_c_6
  let main_v18 : IVec S16x32x1 1 := cmpi .slt main_arg3 main_v17
  let main_c_7 : IVec S_ 1 := constantI S_ 1 1#1
  let main_v19 : IVec S_ 1 := (fun x v => Host.reduce IntOp.andi x v reducesTo_S16x32x1_S_d0_1_2 h_S_) main_v18 main_c_7
  let main_v20 : IVec S_ 1 := andi main_v16 main_v19
  main_v20

def fn {F : FTy → Type} [FloatOps F] (main_arg0 : FVec F S16x8400x80 .f32) (main_arg1 : FVec F S16x8400x4 .f32) (main_arg2 : FVec F S8400x2 .f32) (main_arg3 : IVec S16x32x1 32) (main_arg4 : FVec F S16x32x4 .f32) (main_arg5 : FVec F S16x32x1 .f32) : IVec S_ 1 :=
  let main_cst : FVec F S_ .f32 := constant S_ .f32 0x00000000#32
  let main_v0 : FVec F S16x8400x80 .f32 := broadcastInDim S16x8400x80 ![] bcast_S_S16x8400x80 main_cst
  let main_v1 : IVec S16x8400x80 1 := cmpf .oge main_arg0 main_v0
  let main_c : IVec S_ 1 := constantI S_ 1 1#1
  let main_v2 : IVec S_ 1 := (fun x v => Host.reduce IntOp.andi x v reducesTo_S16x8400x80_S_d0_1_2 h_S_) main_v1 main_c
  let main_v3 : FVec F S16x8400x4 .f32 := Host.absf main_arg1
  let main_cst_0 : FVec F S_ .f32 := constant S_ .f32 0x7F800000#32
  let main_v4 : FVec F S16x8400x4 .f32 := broadcastInDim S16x8400x4 ![] bcast_S_S16x8400x4 main_cst_0
  let main_v5 : IVec S16x8400x4 1 := cmpf .olt main_v3 main_v4
  let main_c_1 : IVec S_ 1 := constantI S_ 1 1#1
  let main_v6 : IVec S_ 1 := (fun x v => Host.reduce IntOp.andi x v reducesTo_S16x8400x4_S_d0_1_2 h_S_) main_v5 main_c_1
  let main_v7 : IVec S_ 1 := andi main_v2 main_v6
  let main_v8 : FVec F S16x32x4 .f32 := Host.absf main_arg4
  let main_cst_2 : FVec F S_ .f32 := constant S_ .f32 0x7F800000#32
  let main_v9 : FVec F S16x32x4 .f32 := broadcastInDim S16x32x4 ![] bcast_S_S16x32x4 main_cst_2
  let main_v10 : IVec S16x32x4 1 := cmpf .olt main_v8 main_v9
  let main_c_3 : IVec S_ 1 := constantI S_ 1 1#1
  let main_v11 : IVec S_ 1 := (fun x v => Host.reduce IntOp.andi x v reducesTo_S16x32x4_S_d0_1_2 h_S_) main_v10 main_c_3
  let main_v12 : IVec S_ 1 := andi main_v7 main_v11
  let main_c_4 : IVec S_ 32 := constantI S_ 32 0#32
  let main_v13 : IVec S16x32x1 32 := broadcastInDim S16x32x1 ![] bcast_S_S16x32x1 main_c_4
  let main_v14 : IVec S16x32x1 1 := cmpi .sge main_arg3 main_v13
  let main_c_5 : IVec S_ 1 := constantI S_ 1 1#1
  let main_v15 : IVec S_ 1 := (fun x v => Host.reduce IntOp.andi x v reducesTo_S16x32x1_S_d0_1_2 h_S_) main_v14 main_c_5
  fn_part1 (F := F) main_arg3 main_v12 main_v15
-- ==== Kernel.lean ====
abbrev S16x8400x80 : Shape := ⟨3, ![16, 8400, 80]⟩
abbrev S16x8400x4 : Shape := ⟨3, ![16, 8400, 4]⟩
abbrev S8400x2 : Shape := ⟨2, ![8400, 2]⟩
abbrev S16x32x1 : Shape := ⟨3, ![16, 32, 1]⟩
abbrev S16x32x4 : Shape := ⟨3, ![16, 32, 4]⟩
abbrev S16x4x8400 : Shape := ⟨3, ![16, 4, 8400]⟩
abbrev S2x8400 : Shape := ⟨2, ![2, 8400]⟩
abbrev S16x1x8400 : Shape := ⟨3, ![16, 1, 8400]⟩
abbrev S16x8400 : Shape := ⟨2, ![16, 8400]⟩
abbrev S_ : Shape := ⟨0, ![]⟩
abbrev S1x8400x80 : Shape := ⟨3, ![1, 8400, 80]⟩
abbrev S1x4x8400 : Shape := ⟨3, ![1, 4, 8400]⟩
abbrev S1x32x1 : Shape := ⟨3, ![1, 32, 1]⟩
abbrev S1x32x4 : Shape := ⟨3, ![1, 32, 4]⟩
abbrev S1x8400x4 : Shape := ⟨3, ![1, 8400, 4]⟩
abbrev S1x1x8400 : Shape := ⟨3, ![1, 1, 8400]⟩
abbrev S8400x80 : Shape := ⟨2, ![8400, 80]⟩
abbrev S4x8400 : Shape := ⟨2, ![4, 8400]⟩
abbrev S32x4 : Shape := ⟨2, ![32, 4]⟩
abbrev S32x1 : Shape := ⟨2, ![32, 1]⟩
abbrev S32x80 : Shape := ⟨2, ![32, 80]⟩
abbrev S32x8400 : Shape := ⟨2, ![32, 8400]⟩
abbrev S1x8400 : Shape := ⟨2, ![1, 8400]⟩
abbrev S32 : Shape := ⟨1, ![32]⟩
abbrev S8400 : Shape := ⟨1, ![8400]⟩
abbrev S8400x4 : Shape := ⟨2, ![8400, 4]⟩

abbrev nBuf : Space → Nat
  | .hbm => 15
  | .vmem => 17
  | .smem => 0
  | _ => 0

abbrev bufTy : (tb : Table) → Fin (tcTables nBuf tb) → BufTy
  | .hbm, ⟨0, _⟩ => ⟨S16x8400x80, .f32⟩
  | .hbm, ⟨1, _⟩ => ⟨S16x8400x4, .f32⟩
  | .hbm, ⟨2, _⟩ => ⟨S8400x2, .f32⟩
  | .hbm, ⟨3, _⟩ => ⟨S16x32x1, .i32⟩
  | .hbm, ⟨4, _⟩ => ⟨S16x32x4, .f32⟩
  | .hbm, ⟨5, _⟩ => ⟨S16x32x1, .f32⟩
  | .hbm, ⟨6, _⟩ => ⟨S16x4x8400, .f32⟩
  | .hbm, ⟨7, _⟩ => ⟨S2x8400, .f32⟩
  | .hbm, ⟨8, _⟩ => ⟨S16x8400x4, .f32⟩
  | .hbm, ⟨9, _⟩ => ⟨S16x8400x80, .f32⟩
  | .hbm, ⟨10, _⟩ => ⟨S16x1x8400, .f32⟩
  | .hbm, ⟨11, _⟩ => ⟨S16x8400, .f32⟩
  | .hbm, ⟨12, _⟩ => ⟨S_, .f32⟩
  | .hbm, ⟨13, _⟩ => ⟨S16x8400, .f32⟩
  | .hbm, ⟨14, _⟩ => ⟨S16x8400, .i1⟩
  | .local _ .vmem, ⟨0, _⟩ => ⟨S1x8400x80, .f32⟩
  | .local _ .vmem, ⟨1, _⟩ => ⟨S1x8400x80, .f32⟩
  | .local _ .vmem, ⟨2, _⟩ => ⟨S1x4x8400, .f32⟩
  | .local _ .vmem, ⟨3, _⟩ => ⟨S1x4x8400, .f32⟩
  | .local _ .vmem, ⟨4, _⟩ => ⟨S2x8400, .f32⟩
  | .local _ .vmem, ⟨5, _⟩ => ⟨S1x32x1, .i32⟩
  | .local _ .vmem, ⟨6, _⟩ => ⟨S1x32x1, .i32⟩
  | .local _ .vmem, ⟨7, _⟩ => ⟨S1x32x4, .f32⟩
  | .local _ .vmem, ⟨8, _⟩ => ⟨S1x32x4, .f32⟩
  | .local _ .vmem, ⟨9, _⟩ => ⟨S1x32x1, .f32⟩
  | .local _ .vmem, ⟨10, _⟩ => ⟨S1x32x1, .f32⟩
  | .local _ .vmem, ⟨11, _⟩ => ⟨S1x8400x4, .f32⟩
  | .local _ .vmem, ⟨12, _⟩ => ⟨S1x8400x4, .f32⟩
  | .local _ .vmem, ⟨13, _⟩ => ⟨S1x8400x80, .f32⟩
  | .local _ .vmem, ⟨14, _⟩ => ⟨S1x8400x80, .f32⟩
  | .local _ .vmem, ⟨15, _⟩ => ⟨S1x1x8400, .f32⟩
  | .local _ .vmem, ⟨16, _⟩ => ⟨S1x1x8400, .f32⟩
  | _, _ => ⟨S16x8400x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0_0 : Ref sig .tc := ⟨.hbm, 8, rfl⟩
abbrev main_v0_1 : Ref sig .tc := ⟨.hbm, 9, rfl⟩
abbrev main_call0_v2_2 : Ref sig .tc := ⟨.hbm, 10, rfl⟩
abbrev main_call0_v3 : Ref sig .tc := ⟨.hbm, 11, rfl⟩
abbrev main_call0_cst : Ref sig .tc := ⟨.hbm, 12, rfl⟩
abbrev main_call0_v4 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8400x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x8400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8400x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8400x80 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x8400 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x8400x80 : Shape := ⟨3, ![16, 8400, 80]⟩
abbrev S16x8400x4 : Shape := ⟨3, ![16, 8400, 4]⟩
abbrev S8400x2 : Shape := ⟨2, ![8400, 2]⟩
abbrev S16x32x1 : Shape := ⟨3, ![16, 32, 1]⟩
abbrev S16x32x4 : Shape := ⟨3, ![16, 32, 4]⟩
abbrev S512x1x4 : Shape := ⟨3, ![512, 1, 4]⟩
abbrev S512x1x2 : Shape := ⟨3, ![512, 1, 2]⟩
abbrev S1x8400x2 : Shape := ⟨3, ![1, 8400, 2]⟩
abbrev S512x8400x2 : Shape := ⟨3, ![512, 8400, 2]⟩
abbrev S512x8400x4 : Shape := ⟨3, ![512, 8400, 4]⟩
abbrev S16x32x8400x4 : Shape := ⟨4, ![16, 32, 8400, 4]⟩
abbrev S_ : Shape := ⟨0, ![]⟩
abbrev S16x32x8400 : Shape := ⟨3, ![16, 32, 8400]⟩
abbrev S16x32 : Shape := ⟨2, ![16, 32]⟩
abbrev S16x8400x32 : Shape := ⟨3, ![16, 8400, 32]⟩
abbrev S16x32x1x4 : Shape := ⟨4, ![16, 32, 1, 4]⟩
abbrev S16x1x8400x4 : Shape := ⟨4, ![16, 1, 8400, 4]⟩
abbrev S16x32x1x1 : Shape := ⟨4, ![16, 32, 1, 1]⟩
abbrev S16x1x8400x1 : Shape := ⟨4, ![16, 1, 8400, 1]⟩
abbrev S16x32x8400x1 : Shape := ⟨4, ![16, 32, 8400, 1]⟩
abbrev S16x32x13 : Shape := ⟨3, ![16, 32, 13]⟩
abbrev S512x13 : Shape := ⟨2, ![512, 13]⟩
abbrev S512x8400 : Shape := ⟨2, ![512, 8400]⟩
abbrev S512 : Shape := ⟨1, ![512]⟩
abbrev S512x1 : Shape := ⟨2, ![512, 1]⟩
abbrev S512x13x1 : Shape := ⟨3, ![512, 13, 1]⟩
abbrev S512x13x2 : Shape := ⟨3, ![512, 13, 2]⟩
abbrev S16x8400 : Shape := ⟨2, ![16, 8400]⟩
abbrev S16x1x8400 : Shape := ⟨3, ![16, 1, 8400]⟩
abbrev S1x32x1 : Shape := ⟨3, ![1, 32, 1]⟩
abbrev S16 : Shape := ⟨1, ![16]⟩
abbrev S16x1 : Shape := ⟨2, ![16, 1]⟩
abbrev S16x8400x1 : Shape := ⟨3, ![16, 8400, 1]⟩
abbrev S512x4 : Shape := ⟨2, ![512, 4]⟩
abbrev S1x1x80 : Shape := ⟨3, ![1, 1, 80]⟩

abbrev nBuf : Space → Nat
  | .hbm => 495
  | .vmem => 0
  | .smem => 0
  | _ => 0

abbrev hbmTy0_0 (i : Nat) : BufTy := match i % 128 with
  | 0 => ⟨S16x8400x80, .f32⟩
  | 1 => ⟨S16x8400x4, .f32⟩
  | 2 => ⟨S8400x2, .f32⟩
  | 3 => ⟨S16x32x1, .i32⟩
  | 4 => ⟨S16x32x4, .f32⟩
  | 5 => ⟨S16x32x1, .f32⟩
  | 6 => ⟨S512x1x4, .f32⟩
  | 7 => ⟨S512x1x2, .f32⟩
  | 8 => ⟨S512x1x2, .f32⟩
  | 9 => ⟨S1x8400x2, .f32⟩
  | 10 => ⟨S512x8400x2, .f32⟩
  | 11 => ⟨S512x8400x2, .f32⟩
  | 12 => ⟨S512x8400x2, .f32⟩
  | 13 => ⟨S1x8400x2, .f32⟩
  | 14 => ⟨S512x8400x2, .f32⟩
  | 15 => ⟨S512x8400x2, .f32⟩
  | 16 => ⟨S512x8400x2, .f32⟩
  | 17 => ⟨S512x8400x4, .f32⟩
  | 18 => ⟨S16x32x8400x4, .f32⟩
  | 19 => ⟨S_, .f32⟩
  | 20 => ⟨S16x32x8400, .f32⟩
  | 21 => ⟨S_, .f32⟩
  | 22 => ⟨S16x32x8400, .f32⟩
  | 23 => ⟨S16x32x8400, .i1⟩
  | 24 => ⟨S16x32x8400, .f32⟩
  | 25 => ⟨S16x32x8400, .f32⟩
  | 26 => ⟨S16x32x8400, .f32⟩
  | 27 => ⟨S_, .f32⟩
  | 28 => ⟨S16x32x8400, .f32⟩
  | 29 => ⟨S16x32x8400, .i1⟩
  | 30 => ⟨S16x32, .i32⟩
  | 31 => ⟨S_, .i32⟩
  | 32 => ⟨S16x32, .i32⟩
  | 33 => ⟨S16x32, .i1⟩
  | 34 => ⟨S_, .i32⟩
  | 35 => ⟨S16x32, .i32⟩
  | 36 => ⟨S16x32, .i32⟩
  | 37 => ⟨S16x32, .i32⟩
  | 38 => ⟨S16x32x1, .i32⟩
  | 39 => ⟨S16x8400x32, .f32⟩
  | 40 => ⟨S16x32x8400, .f32⟩
  | 41 => ⟨S_, .f32⟩
  | 42 => ⟨S_, .f32⟩
  | 43 => ⟨S16x32x8400, .f32⟩
  | 44 => ⟨S16x32x8400, .f32⟩
  | 45 => ⟨S16x32x1x4, .f32⟩
  | 46 => ⟨S16x1x8400x4, .f32⟩
  | 47 => ⟨S16x32x1x1, .f32⟩
  | 48 => ⟨S16x32x1x1, .f32⟩
  | 49 => ⟨S16x32x1x1, .f32⟩
  | 50 => ⟨S16x32x1x1, .f32⟩
  | 51 => ⟨S16x1x8400x1, .f32⟩
  | 52 => ⟨S16x1x8400x1, .f32⟩
  | 53 => ⟨S16x1x8400x1, .f32⟩
  | 54 => ⟨S16x1x8400x1, .f32⟩
  | 55 => ⟨S16x32x1x1, .f32⟩
  | 56 => ⟨S16x32x1x1, .f32⟩
  | 57 => ⟨S_, .f32⟩
  | 58 => ⟨S16x32x1x1, .f32⟩
  | 59 => ⟨S16x32x1x1, .f32⟩
  | 60 => ⟨S16x1x8400x1, .f32⟩
  | 61 => ⟨S16x1x8400x1, .f32⟩
  | 62 => ⟨S_, .f32⟩
  | 63 => ⟨S16x1x8400x1, .f32⟩
  | 64 => ⟨S16x1x8400x1, .f32⟩
  | 65 => ⟨S16x32x8400x1, .f32⟩
  | 66 => ⟨S16x32x8400x1, .f32⟩
  | 67 => ⟨S16x32x8400x1, .f32⟩
  | 68 => ⟨S16x32x8400x1, .f32⟩
  | 69 => ⟨S16x32x8400x1, .f32⟩
  | 70 => ⟨S16x32x8400x1, .f32⟩
  | 71 => ⟨S16x32x8400x1, .f32⟩
  | 72 => ⟨S_, .f32⟩
  | 73 => ⟨S16x32x8400x1, .f32⟩
  | 74 => ⟨S16x32x8400x1, .f32⟩
  | 75 => ⟨S16x32x8400x1, .f32⟩
  | 76 => ⟨S16x32x8400x1, .f32⟩
  | 77 => ⟨S16x32x8400x1, .f32⟩
  | 78 => ⟨S16x32x8400x1, .f32⟩
  | 79 => ⟨S16x32x8400x1, .f32⟩
  | 80 => ⟨S16x32x8400x1, .f32⟩
  | 81 => ⟨S16x32x8400x1, .f32⟩
  | 82 => ⟨S_, .f32⟩
  | 83 => ⟨S16x32x8400x1, .f32⟩
  | 84 => ⟨S16x32x8400x1, .f32⟩
  | 85 => ⟨S16x32x8400x1, .f32⟩
  | 86 => ⟨S16x32x1x1, .f32⟩
  | 87 => ⟨S16x1x8400x1, .f32⟩
  | 88 => ⟨S16x32x8400x1, .f32⟩
  | 89 => ⟨S16x32x8400x1, .f32⟩
  | 90 => ⟨S16x32x8400x1, .f32⟩
  | 91 => ⟨S16x32x8400x1, .f32⟩
  | 92 => ⟨S_, .f32⟩
  | 93 => ⟨S16x32x8400x1, .f32⟩
  | 94 => ⟨S16x32x8400x1, .f32⟩
  | 95 => ⟨S16x32x8400x1, .f32⟩
  | 96 => ⟨S16x32x8400x1, .f32⟩
  | 97 => ⟨S16x32x8400x1, .f32⟩
  | 98 => ⟨S16x32x8400x1, .f32⟩
  | 99 => ⟨S16x32x8400x1, .f32⟩
  | 100 => ⟨S16x32x8400x1, .f32⟩
  | 101 => ⟨S16x32x8400x1, .f32⟩
  | 102 => ⟨S16x32x8400x1, .f32⟩
  | 103 => ⟨S16x32x8400x1, .f32⟩
  | 104 => ⟨S16x32x8400x1, .f32⟩
  | 105 => ⟨S16x32x8400x1, .f32⟩
  | 106 => ⟨S16x32x8400x1, .f32⟩
  | 107 => ⟨S16x32x8400x1, .f32⟩
  | 108 => ⟨S16x32x8400x1, .f32⟩
  | 109 => ⟨S16x32x8400x1, .f32⟩
  | 110 => ⟨S16x32x8400x1, .f32⟩
  | 111 => ⟨S16x32x8400x1, .f32⟩
  | 112 => ⟨S16x32x8400x1, .f32⟩
  | 113 => ⟨S_, .f32⟩
  | 114 => ⟨S16x32x8400x1, .f32⟩
  | 115 => ⟨S16x32x8400x1, .f32⟩
  | 116 => ⟨S16x1x8400x1, .f32⟩
  | 117 => ⟨S16x32x8400x1, .f32⟩
  | 118 => ⟨S16x32x8400x1, .f32⟩
  | 119 => ⟨S16x32x8400x1, .f32⟩
  | 120 => ⟨S16x32x8400x1, .f32⟩
  | 121 => ⟨S16x32x8400x1, .f32⟩
  | 122 => ⟨S16x32x8400x1, .f32⟩
  | 123 => ⟨S16x1x8400x1, .f32⟩
  | 124 => ⟨S16x32x8400x1, .f32⟩
  | 125 => ⟨S16x32x8400x1, .f32⟩
  | 126 => ⟨S16x32x8400x1, .f32⟩
  | 127 => ⟨S16x32x8400x1, .f32⟩
  | _ => ⟨S16x8400x80, .f32⟩

abbrev hbmTy0_1 (i : Nat) : BufTy := match i % 128 with
  | 0 => ⟨S16x32x8400x1, .f32⟩
  | 1 => ⟨S16x32x8400x1, .f32⟩
  | 2 => ⟨S16x32x8400x1, .f32⟩
  | 3 => ⟨S_, .f32⟩
  | 4 => ⟨S16x32x8400x1, .f32⟩
  | 5 => ⟨S16x32x8400x1, .f32⟩
  | 6 => ⟨S16x1x8400x1, .f32⟩
  | 7 => ⟨S16x1x8400x1, .f32⟩
  | 8 => ⟨S_, .f32⟩
  | 9 => ⟨S16x1x8400x1, .f32⟩
  | 10 => ⟨S16x1x8400x1, .i1⟩
  | 11 => ⟨S_, .f32⟩
  | 12 => ⟨S16x1x8400x1, .f32⟩
  | 13 => ⟨S16x1x8400x1, .f32⟩
  | 14 => ⟨S16x1x8400x1, .f32⟩
  | 15 => ⟨S_, .f32⟩
  | 16 => ⟨S16x1x8400x1, .f32⟩
  | 17 => ⟨S16x1x8400x1, .f32⟩
  | 18 => ⟨S_, .f32⟩
  | 19 => ⟨S16x1x8400x1, .f32⟩
  | 20 => ⟨S16x1x8400x1, .f32⟩
  | 21 => ⟨S16x1x8400x1, .f32⟩
  | 22 => ⟨S16x1x8400x1, .f32⟩
  | 23 => ⟨S_, .f32⟩
  | 24 => ⟨S16x1x8400x1, .f32⟩
  | 25 => ⟨S16x1x8400x1, .f32⟩
  | 26 => ⟨S16x1x8400x1, .f32⟩
  | 27 => ⟨S16x1x8400x1, .f32⟩
  | 28 => ⟨S16x1x8400x1, .f32⟩
  | 29 => ⟨S16x1x8400x1, .f32⟩
  | 30 => ⟨S_, .f32⟩
  | 31 => ⟨S16x1x8400x1, .f32⟩
  | 32 => ⟨S16x1x8400x1, .f32⟩
  | 33 => ⟨S16x1x8400x1, .f32⟩
  | 34 => ⟨S16x1x8400x1, .f32⟩
  | 35 => ⟨S16x1x8400x1, .f32⟩
  | 36 => ⟨S16x1x8400x1, .f32⟩
  | 37 => ⟨S16x1x8400x1, .f32⟩
  | 38 => ⟨S_, .f32⟩
  | 39 => ⟨S16x1x8400x1, .f32⟩
  | 40 => ⟨S16x1x8400x1, .f32⟩
  | 41 => ⟨S16x1x8400x1, .f32⟩
  | 42 => ⟨S16x1x8400x1, .f32⟩
  | 43 => ⟨S16x1x8400x1, .f32⟩
  | 44 => ⟨S16x1x8400x1, .f32⟩
  | 45 => ⟨S16x1x8400x1, .f32⟩
  | 46 => ⟨S_, .f32⟩
  | 47 => ⟨S16x1x8400x1, .f32⟩
  | 48 => ⟨S16x1x8400x1, .f32⟩
  | 49 => ⟨S16x1x8400x1, .f32⟩
  | 50 => ⟨S16x1x8400x1, .f32⟩
  | 51 => ⟨S16x1x8400x1, .f32⟩
  | 52 => ⟨S16x1x8400x1, .f32⟩
  | 53 => ⟨S16x1x8400x1, .f32⟩
  | 54 => ⟨S16x1x8400x1, .f32⟩
  | 55 => ⟨S_, .f32⟩
  | 56 => ⟨S16x1x8400x1, .f32⟩
  | 57 => ⟨S16x1x8400x1, .f32⟩
  | 58 => ⟨S16x1x8400x1, .f32⟩
  | 59 => ⟨S16x1x8400x1, .f32⟩
  | 60 => ⟨S16x1x8400x1, .f32⟩
  | 61 => ⟨S16x1x8400x1, .f32⟩
  | 62 => ⟨S16x1x8400x1, .f32⟩
  | 63 => ⟨S16x1x8400x1, .f32⟩
  | 64 => ⟨S_, .f32⟩
  | 65 => ⟨S16x1x8400x1, .f32⟩
  | 66 => ⟨S16x1x8400x1, .f32⟩
  | 67 => ⟨S16x1x8400x1, .f32⟩
  | 68 => ⟨S16x1x8400x1, .f32⟩
  | 69 => ⟨S16x1x8400x1, .f32⟩
  | 70 => ⟨S16x1x8400x1, .f32⟩
  | 71 => ⟨S16x1x8400x1, .f32⟩
  | 72 => ⟨S16x1x8400x1, .f32⟩
  | 73 => ⟨S16x1x8400x1, .f32⟩
  | 74 => ⟨S_, .f32⟩
  | 75 => ⟨S16x1x8400x1, .f32⟩
  | 76 => ⟨S16x1x8400x1, .f32⟩
  | 77 => ⟨S16x1x8400x1, .f32⟩
  | 78 => ⟨S16x1x8400x1, .f32⟩
  | 79 => ⟨S16x1x8400x1, .f32⟩
  | 80 => ⟨S16x1x8400x1, .f32⟩
  | 81 => ⟨S16x1x8400x1, .f32⟩
  | 82 => ⟨S16x1x8400x1, .f32⟩
  | 83 => ⟨S_, .f32⟩
  | 84 => ⟨S16x1x8400x1, .f32⟩
  | 85 => ⟨S16x1x8400x1, .f32⟩
  | 86 => ⟨S16x1x8400x1, .f32⟩
  | 87 => ⟨S_, .f32⟩
  | 88 => ⟨S16x1x8400x1, .f32⟩
  | 89 => ⟨S16x1x8400x1, .i1⟩
  | 90 => ⟨S_, .f32⟩
  | 91 => ⟨S16x1x8400x1, .f32⟩
  | 92 => ⟨S16x1x8400x1, .f32⟩
  | 93 => ⟨S16x1x8400x1, .f32⟩
  | 94 => ⟨S_, .f32⟩
  | 95 => ⟨S16x1x8400x1, .f32⟩
  | 96 => ⟨S16x1x8400x1, .i1⟩
  | 97 => ⟨S16x1x8400x1, .f32⟩
  | 98 => ⟨S16x1x8400x1, .f32⟩
  | 99 => ⟨S16x32x1x1, .f32⟩
  | 100 => ⟨S16x32x1x1, .f32⟩
  | 101 => ⟨S_, .f32⟩
  | 102 => ⟨S16x32x1x1, .f32⟩
  | 103 => ⟨S16x32x1x1, .i1⟩
  | 104 => ⟨S_, .f32⟩
  | 105 => ⟨S16x32x1x1, .f32⟩
  | 106 => ⟨S16x32x1x1, .f32⟩
  | 107 => ⟨S16x32x1x1, .f32⟩
  | 108 => ⟨S_, .f32⟩
  | 109 => ⟨S16x32x1x1, .f32⟩
  | 110 => ⟨S16x32x1x1, .f32⟩
  | 111 => ⟨S_, .f32⟩
  | 112 => ⟨S16x32x1x1, .f32⟩
  | 113 => ⟨S16x32x1x1, .f32⟩
  | 114 => ⟨S16x32x1x1, .f32⟩
  | 115 => ⟨S16x32x1x1, .f32⟩
  | 116 => ⟨S_, .f32⟩
  | 117 => ⟨S16x32x1x1, .f32⟩
  | 118 => ⟨S16x32x1x1, .f32⟩
  | 119 => ⟨S16x32x1x1, .f32⟩
  | 120 => ⟨S16x32x1x1, .f32⟩
  | 121 => ⟨S16x32x1x1, .f32⟩
  | 122 => ⟨S16x32x1x1, .f32⟩
  | 123 => ⟨S_, .f32⟩
  | 124 => ⟨S16x32x1x1, .f32⟩
  | 125 => ⟨S16x32x1x1, .f32⟩
  | 126 => ⟨S16x32x1x1, .f32⟩
  | 127 => ⟨S16x32x1x1, .f32⟩
  | _ => ⟨S16x8400x80, .f32⟩

abbrev hbmTy0_2 (i : Nat) : BufTy := match i % 128 with
  | 0 => ⟨S16x32x1x1, .f32⟩
  | 1 => ⟨S16x32x1x1, .f32⟩
  | 2 => ⟨S16x32x1x1, .f32⟩
  | 3 => ⟨S_, .f32⟩
  | 4 => ⟨S16x32x1x1, .f32⟩
  | 5 => ⟨S16x32x1x1, .f32⟩
  | 6 => ⟨S16x32x1x1, .f32⟩
  | 7 => ⟨S16x32x1x1, .f32⟩
  | 8 => ⟨S16x32x1x1, .f32⟩
  | 9 => ⟨S16x32x1x1, .f32⟩
  | 10 => ⟨S16x32x1x1, .f32⟩
  | 11 => ⟨S_, .f32⟩
  | 12 => ⟨S16x32x1x1, .f32⟩
  | 13 => ⟨S16x32x1x1, .f32⟩
  | 14 => ⟨S16x32x1x1, .f32⟩
  | 15 => ⟨S16x32x1x1, .f32⟩
  | 16 => ⟨S16x32x1x1, .f32⟩
  | 17 => ⟨S16x32x1x1, .f32⟩
  | 18 => ⟨S16x32x1x1, .f32⟩
  | 19 => ⟨S16x32x1x1, .f32⟩
  | 20 => ⟨S_, .f32⟩
  | 21 => ⟨S16x32x1x1, .f32⟩
  | 22 => ⟨S16x32x1x1, .f32⟩
  | 23 => ⟨S16x32x1x1, .f32⟩
  | 24 => ⟨S16x32x1x1, .f32⟩
  | 25 => ⟨S16x32x1x1, .f32⟩
  | 26 => ⟨S16x32x1x1, .f32⟩
  | 27 => ⟨S16x32x1x1, .f32⟩
  | 28 => ⟨S16x32x1x1, .f32⟩
  | 29 => ⟨S_, .f32⟩
  | 30 => ⟨S16x32x1x1, .f32⟩
  | 31 => ⟨S16x32x1x1, .f32⟩
  | 32 => ⟨S16x32x1x1, .f32⟩
  | 33 => ⟨S16x32x1x1, .f32⟩
  | 34 => ⟨S16x32x1x1, .f32⟩
  | 35 => ⟨S16x32x1x1, .f32⟩
  | 36 => ⟨S16x32x1x1, .f32⟩
  | 37 => ⟨S16x32x1x1, .f32⟩
  | 38 => ⟨S16x32x1x1, .f32⟩
  | 39 => ⟨S_, .f32⟩
  | 40 => ⟨S16x32x1x1, .f32⟩
  | 41 => ⟨S16x32x1x1, .f32⟩
  | 42 => ⟨S16x32x1x1, .f32⟩
  | 43 => ⟨S16x32x1x1, .f32⟩
  | 44 => ⟨S16x32x1x1, .f32⟩
  | 45 => ⟨S16x32x1x1, .f32⟩
  | 46 => ⟨S16x32x1x1, .f32⟩
  | 47 => ⟨S16x32x1x1, .f32⟩
  | 48 => ⟨S_, .f32⟩
  | 49 => ⟨S16x32x1x1, .f32⟩
  | 50 => ⟨S16x32x1x1, .f32⟩
  | 51 => ⟨S16x32x1x1, .f32⟩
  | 52 => ⟨S_, .f32⟩
  | 53 => ⟨S16x32x1x1, .f32⟩
  | 54 => ⟨S16x32x1x1, .i1⟩
  | 55 => ⟨S_, .f32⟩
  | 56 => ⟨S16x32x1x1, .f32⟩
  | 57 => ⟨S16x32x1x1, .f32⟩
  | 58 => ⟨S16x32x1x1, .f32⟩
  | 59 => ⟨S_, .f32⟩
  | 60 => ⟨S16x32x1x1, .f32⟩
  | 61 => ⟨S16x32x1x1, .i1⟩
  | 62 => ⟨S16x32x1x1, .f32⟩
  | 63 => ⟨S16x32x1x1, .f32⟩
  | 64 => ⟨S16x32x8400x1, .f32⟩
  | 65 => ⟨S16x32x8400x1, .f32⟩
  | 66 => ⟨S16x32x8400x1, .f32⟩
  | 67 => ⟨S16x32x8400x1, .f32⟩
  | 68 => ⟨S_, .f32⟩
  | 69 => ⟨S16x32x8400x1, .f32⟩
  | 70 => ⟨S16x32x8400x1, .f32⟩
  | 71 => ⟨S16x32x8400x1, .f32⟩
  | 72 => ⟨S_, .f32⟩
  | 73 => ⟨S16x32x8400x1, .f32⟩
  | 74 => ⟨S16x32x8400x1, .f32⟩
  | 75 => ⟨S16x32x8400x1, .f32⟩
  | 76 => ⟨S16x32x8400x1, .f32⟩
  | 77 => ⟨S16x32x8400x1, .f32⟩
  | 78 => ⟨S16x32x8400x1, .f32⟩
  | 79 => ⟨S16x32x8400x1, .f32⟩
  | 80 => ⟨S16x32x8400, .f32⟩
  | 81 => ⟨S_, .f32⟩
  | 82 => ⟨S16x32x8400, .f32⟩
  | 83 => ⟨S16x32x8400, .f32⟩
  | 84 => ⟨S_, .f32⟩
  | 85 => ⟨S_, .f32⟩
  | 86 => ⟨S16x32x8400, .f32⟩
  | 87 => ⟨S16x32x8400, .f32⟩
  | 88 => ⟨S_, .f32⟩
  | 89 => ⟨S16x32x8400, .f32⟩
  | 90 => ⟨S16x32x8400, .f32⟩
  | 91 => ⟨S_, .f32⟩
  | 92 => ⟨S16x32x8400, .f32⟩
  | 93 => ⟨S16x32x8400, .f32⟩
  | 94 => ⟨S16x32x8400, .f32⟩
  | 95 => ⟨S16x32x13, .f32⟩
  | 96 => ⟨S16x32x13, .i32⟩
  | 97 => ⟨S_, .f32⟩
  | 98 => ⟨S16x32x1, .f32⟩
  | 99 => ⟨S16x32x1, .i1⟩
  | 100 => ⟨S16x32x13, .i1⟩
  | 101 => ⟨S_, .i32⟩
  | 102 => ⟨S_, .i32⟩
  | 103 => ⟨S16x32x13, .i32⟩
  | 104 => ⟨S16x32x13, .i32⟩
  | 105 => ⟨S512x13, .i32⟩
  | 106 => ⟨S_, .i32⟩
  | 107 => ⟨S512x8400, .i32⟩
  | 108 => ⟨S512, .i32⟩
  | 109 => ⟨S512x1, .i32⟩
  | 110 => ⟨S_, .i32⟩
  | 111 => ⟨S512x1, .i32⟩
  | 112 => ⟨S512x1, .i1⟩
  | 113 => ⟨S_, .i32⟩
  | 114 => ⟨S512x1, .i32⟩
  | 115 => ⟨S512x1, .i32⟩
  | 116 => ⟨S512x1, .i32⟩
  | 117 => ⟨S_, .i32⟩
  | 118 => ⟨S512x13, .i32⟩
  | 119 => ⟨S512x13, .i1⟩
  | 120 => ⟨S_, .i32⟩
  | 121 => ⟨S512x13, .i32⟩
  | 122 => ⟨S512x13, .i32⟩
  | 123 => ⟨S512x13, .i32⟩
  | 124 => ⟨S512x13, .i32⟩
  | 125 => ⟨S512x13x1, .i32⟩
  | 126 => ⟨S512x13x1, .i32⟩
  | 127 => ⟨S512x13x2, .i32⟩
  | _ => ⟨S16x8400x80, .f32⟩

abbrev hbmTy0_3 (i : Nat) : BufTy := match i % 128 with
  | 0 => ⟨S_, .i32⟩
  | 1 => ⟨S512x13, .i32⟩
  | 2 => ⟨S512x8400, .i32⟩
  | 3 => ⟨S_, .i32⟩
  | 4 => ⟨S512x8400, .i32⟩
  | 5 => ⟨S512x8400, .i1⟩
  | 6 => ⟨S_, .i32⟩
  | 7 => ⟨S_, .i32⟩
  | 8 => ⟨S512x8400, .i32⟩
  | 9 => ⟨S512x8400, .i32⟩
  | 10 => ⟨S16x32x8400, .i32⟩
  | 11 => ⟨S16x32x8400, .f32⟩
  | 12 => ⟨S16x32x8400, .f32⟩
  | 13 => ⟨S16x32x8400, .f32⟩
  | 14 => ⟨S16x32x8400, .f32⟩
  | 15 => ⟨S16x32x8400, .f32⟩
  | 16 => ⟨S_, .f32⟩
  | 17 => ⟨S16x8400, .f32⟩
  | 18 => ⟨S16x1x8400, .f32⟩
  | 19 => ⟨S_, .f32⟩
  | 20 => ⟨S16x1x8400, .f32⟩
  | 21 => ⟨S16x1x8400, .i1⟩
  | 22 => ⟨S16x32x8400, .i1⟩
  | 23 => ⟨S16x32x8400, .i32⟩
  | 24 => ⟨S_, .f32⟩
  | 25 => ⟨S_, .i32⟩
  | 26 => ⟨S16x8400, .f32⟩
  | 27 => ⟨S16x8400, .i32⟩
  | 28 => ⟨S16x1x8400, .i32⟩
  | 29 => ⟨S1x32x1, .i32⟩
  | 30 => ⟨S16x32x8400, .i32⟩
  | 31 => ⟨S16x32x8400, .i32⟩
  | 32 => ⟨S16x32x8400, .i1⟩
  | 33 => ⟨S16x32x8400, .f32⟩
  | 34 => ⟨S16x32x8400, .f32⟩
  | 35 => ⟨S_, .f32⟩
  | 36 => ⟨S16x8400, .f32⟩
  | 37 => ⟨S16x32x8400, .i32⟩
  | 38 => ⟨S_, .f32⟩
  | 39 => ⟨S_, .i32⟩
  | 40 => ⟨S16x8400, .f32⟩
  | 41 => ⟨S16x8400, .i32⟩
  | 42 => ⟨S16, .i32⟩
  | 43 => ⟨S16x1, .i32⟩
  | 44 => ⟨S_, .i32⟩
  | 45 => ⟨S16x1, .i32⟩
  | 46 => ⟨S16x1, .i32⟩
  | 47 => ⟨S16x8400, .i32⟩
  | 48 => ⟨S16x8400, .i32⟩
  | 49 => ⟨S512, .i32⟩
  | 50 => ⟨S_, .i32⟩
  | 51 => ⟨S16x8400, .i32⟩
  | 52 => ⟨S16x8400, .i1⟩
  | 53 => ⟨S_, .i32⟩
  | 54 => ⟨S16x8400, .i32⟩
  | 55 => ⟨S16x8400, .i32⟩
  | 56 => ⟨S16x8400, .i32⟩
  | 57 => ⟨S16x8400x1, .i32⟩
  | 58 => ⟨S16x8400, .i32⟩
  | 59 => ⟨S_, .i32⟩
  | 60 => ⟨S16x8400, .i32⟩
  | 61 => ⟨S16x8400, .i32⟩
  | 62 => ⟨S512x4, .f32⟩
  | 63 => ⟨S_, .i32⟩
  | 64 => ⟨S16x8400, .i32⟩
  | 65 => ⟨S16x8400, .i1⟩
  | 66 => ⟨S_, .i32⟩
  | 67 => ⟨S16x8400, .i32⟩
  | 68 => ⟨S16x8400, .i32⟩
  | 69 => ⟨S16x8400, .i32⟩
  | 70 => ⟨S16x8400x1, .i32⟩
  | 71 => ⟨S16x8400x4, .f32⟩
  | 72 => ⟨S16x8400x1, .i32⟩
  | 73 => ⟨S1x1x80, .i32⟩
  | 74 => ⟨S16x8400x80, .i32⟩
  | 75 => ⟨S16x8400x80, .i32⟩
  | 76 => ⟨S16x8400x80, .i1⟩
  | 77 => ⟨S16x8400x80, .f32⟩
  | 78 => ⟨S16x8400x1, .f32⟩
  | 79 => ⟨S16x8400x80, .f32⟩
  | 80 => ⟨S_, .f32⟩
  | 81 => ⟨S16x8400x80, .f32⟩
  | 82 => ⟨S16x8400x80, .i1⟩
  | 83 => ⟨S_, .f32⟩
  | 84 => ⟨S_, .f32⟩
  | 85 => ⟨S16x8400x80, .f32⟩
  | 86 => ⟨S16x8400x80, .f32⟩
  | 87 => ⟨S16x32x8400, .f32⟩
  | 88 => ⟨S_, .f32⟩
  | 89 => ⟨S16x32, .f32⟩
  | 90 => ⟨S16x32x1, .f32⟩
  | 91 => ⟨S16x32x8400, .f32⟩
  | 92 => ⟨S_, .f32⟩
  | 93 => ⟨S16x32, .f32⟩
  | 94 => ⟨S16x32x1, .f32⟩
  | 95 => ⟨S16x32x8400, .f32⟩
  | 96 => ⟨S16x32x8400, .f32⟩
  | 97 => ⟨S_, .f32⟩
  | 98 => ⟨S16x32x1, .f32⟩
  | 99 => ⟨S16x32x1, .f32⟩
  | 100 => ⟨S16x32x8400, .f32⟩
  | 101 => ⟨S16x32x8400, .f32⟩
  | 102 => ⟨S_, .f32⟩
  | 103 => ⟨S16x8400, .f32⟩
  | 104 => ⟨S16x8400x1, .f32⟩
  | 105 => ⟨S16x8400x80, .f32⟩
  | 106 => ⟨S16x8400x80, .f32⟩
  | 107 => ⟨S_, .f32⟩
  | 108 => ⟨S16x8400, .f32⟩
  | 109 => ⟨S16x8400, .i1⟩
  | 110 => ⟨S16x8400, .i1⟩
  | _ => ⟨S16x8400x80, .f32⟩

abbrev hbmTy (i : Nat) : BufTy := match i / 128 with
  | 0 => hbmTy0_0 i
  | 1 => hbmTy0_1 i
  | 2 => hbmTy0_2 i
  | 3 => hbmTy0_3 i
  | _ => ⟨S16x8400x80, .f32⟩

abbrev bufTy : (tb : Table) → Fin (tcTables nBuf tb) → BufTy
  | .hbm, ⟨i, _⟩ => hbmTy i
  | _, _ => ⟨S16x8400x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_9 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_10 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_11 : Ref sig .tc := ⟨.hbm, 136, rfl⟩
abbrev main_v115 : Ref sig .tc := ⟨.hbm, 137, rfl⟩
abbrev main_v116 : Ref sig .tc := ⟨.hbm, 138, rfl⟩
abbrev main_cst_12 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_cst_13 : Ref sig .tc := ⟨.hbm, 143, rfl⟩
abbrev main_v120 : Ref sig .tc := ⟨.hbm, 144, rfl⟩
abbrev main_v121 : Ref sig .tc := ⟨.hbm, 145, rfl⟩
abbrev main_cst_14 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_15 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_16 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_17 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_18 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_19 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_cst_20 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_cst_21 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_cst_22 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_cst_23 : Ref sig .tc := ⟨.hbm, 215, rfl⟩
abbrev main_v182 : Ref sig .tc := ⟨.hbm, 216, rfl⟩
abbrev main_v183 : Ref sig .tc := ⟨.hbm, 217, rfl⟩
abbrev main_cst_24 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_cst_25 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_cst_26 : Ref sig .tc := ⟨.hbm, 229, rfl⟩
abbrev main_v193 : Ref sig .tc := ⟨.hbm, 230, rfl⟩
abbrev main_v194 : Ref sig .tc := ⟨.hbm, 231, rfl⟩
abbrev main_cst_27 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_cst_28 : Ref sig .tc := ⟨.hbm, 236, rfl⟩
abbrev main_v198 : Ref sig .tc := ⟨.hbm, 237, rfl⟩
abbrev main_v199 : Ref sig .tc := ⟨.hbm, 238, rfl⟩
abbrev main_cst_29 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_cst_30 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_cst_31 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_cst_32 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_cst_33 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_cst_34 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_cst_35 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_cst_36 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_cst_37 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_cst_38 : Ref sig .tc := ⟨.hbm, 308, rfl⟩
abbrev main_v260 : Ref sig .tc := ⟨.hbm, 309, rfl⟩
abbrev main_v261 : Ref sig .tc := ⟨.hbm, 310, rfl⟩
abbrev main_cst_39 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_cst_40 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_cst_41 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_cst_42 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_cst_43 : Ref sig .tc := ⟨.hbm, 337, rfl⟩
abbrev main_v284 : Ref sig .tc := ⟨.hbm, 338, rfl⟩
abbrev main_v285 : Ref sig .tc := ⟨.hbm, 339, rfl⟩
abbrev main_cst_44 : Ref sig .tc := ⟨.hbm, 340, rfl⟩
abbrev main_call7_v0 : Ref sig .tc := ⟨.hbm, 341, rfl⟩
abbrev main_call7_v1 : Ref sig .tc := ⟨.hbm, 342, rfl⟩
abbrev main_v286 : Ref sig .tc := ⟨.hbm, 343, rfl⟩
abbrev main_cst_45 : Ref sig .tc := ⟨.hbm, 344, rfl⟩
abbrev main_v287 : Ref sig .tc := ⟨.hbm, 345, rfl⟩
abbrev main_v288 : Ref sig .tc := ⟨.hbm, 346, rfl⟩
abbrev main_cst_46 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_values : Ref sig .tc := ⟨.hbm, 351, rfl⟩
abbrev main_indices : Ref sig .tc := ⟨.hbm, 352, rfl⟩
abbrev main_cst_47 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_c_48 : Ref sig .tc := ⟨.hbm, 357, rfl⟩
abbrev main_call8_v0 : Ref sig .tc := ⟨.hbm, 358, rfl⟩
abbrev main_call8_v1 : Ref sig .tc := ⟨.hbm, 359, rfl⟩
abbrev main_v295 : Ref sig .tc := ⟨.hbm, 360, rfl⟩
abbrev main_v296 : Ref sig .tc := ⟨.hbm, 361, rfl⟩
abbrev main_c_49 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_c_50 : Ref sig .tc := ⟨.hbm, 366, rfl⟩
abbrev main_v300 : Ref sig .tc := ⟨.hbm, 367, rfl⟩
abbrev main_v301 : Ref sig .tc := ⟨.hbm, 368, rfl⟩
abbrev main_c_51 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_c_52 : Ref sig .tc := ⟨.hbm, 373, rfl⟩
abbrev main_v305 : Ref sig .tc := ⟨.hbm, 374, rfl⟩
abbrev main_v306 : Ref sig .tc := ⟨.hbm, 375, rfl⟩
abbrev main_c_53 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_c_54 : Ref sig .tc := ⟨.hbm, 384, rfl⟩
abbrev main_v314 : Ref sig .tc := ⟨.hbm, 385, rfl⟩
abbrev main_v315 : Ref sig .tc := ⟨.hbm, 386, rfl⟩
abbrev main_c_55 : Ref sig .tc := ⟨.hbm, 387, rfl⟩
abbrev main_v316 : Ref sig .tc := ⟨.hbm, 388, rfl⟩
abbrev main_v317 : Ref sig .tc := ⟨.hbm, 389, rfl⟩
abbrev main_c_56 : Ref sig .tc := ⟨.hbm, 390, rfl⟩
abbrev main_call9_v0 : Ref sig .tc := ⟨.hbm, 391, rfl⟩
abbrev main_call9_v1 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_v321 : Ref sig .tc := ⟨.hbm, 396, rfl⟩
abbrev main_v322 : Ref sig .tc := ⟨.hbm, 397, rfl⟩
abbrev main_v323 : Ref sig .tc := ⟨.hbm, 398, rfl⟩
abbrev main_v324 : Ref sig .tc := ⟨.hbm, 399, rfl⟩
abbrev main_cst_57 : Ref sig .tc := ⟨.hbm, 400, rfl⟩
abbrev main_v325 : Ref sig .tc := ⟨.hbm, 401, rfl⟩
abbrev main_v326 : Ref sig .tc := ⟨.hbm, 402, rfl⟩
abbrev main_cst_58 : Ref sig .tc := ⟨.hbm, 403, rfl⟩
abbrev main_v327 : Ref sig .tc := ⟨.hbm, 404, rfl⟩
abbrev main_v328 : Ref sig .tc := ⟨.hbm, 405, rfl⟩
abbrev main_v329 : Ref sig .tc := ⟨.hbm, 406, rfl⟩
abbrev main_call10_v0 : Ref sig .tc := ⟨.hbm, 407, rfl⟩
abbrev main_call10_cst : Ref sig .tc := ⟨.hbm, 408, rfl⟩
abbrev main_call10_c : Ref sig .tc := ⟨.hbm, 409, rfl⟩
abbrev main_call10_v1_0 : Ref sig .tc := ⟨.hbm, 410, rfl⟩
abbrev main_v330 : Ref sig .tc := ⟨.hbm, 411, rfl⟩
abbrev main_call11_v0 : Ref sig .tc := ⟨.hbm, 412, rfl⟩
abbrev main_call11_v1 : Ref sig .tc := ⟨.hbm, 413, rfl⟩
abbrev main_call11_v2 : Ref sig .tc := ⟨.hbm, 414, rfl⟩
abbrev main_call11_v3 : Ref sig .tc := ⟨.hbm, 415, rfl⟩
abbrev main_call11_v4 : Ref sig .tc := ⟨.hbm, 416, rfl⟩
abbrev main_v331 : Ref sig .tc := ⟨.hbm, 417, rfl⟩
abbrev main_v332 : Ref sig .tc := ⟨.hbm, 418, rfl⟩
abbrev main_cst_59 : Ref sig .tc := ⟨.hbm, 419, rfl⟩
abbrev main_v333 : Ref sig .tc := ⟨.hbm, 420, rfl⟩
abbrev main_call13_v0 : Ref sig .tc := ⟨.hbm, 421, rfl⟩
abbrev main_call13_cst : Ref sig .tc := ⟨.hbm, 422, rfl⟩
abbrev main_call13_c : Ref sig .tc := ⟨.hbm, 423, rfl⟩
abbrev main_call13_v1_0 : Ref sig .tc := ⟨.hbm, 424, rfl⟩
abbrev main_v334 : Ref sig .tc := ⟨.hbm, 425, rfl⟩
abbrev main_v335 : Ref sig .tc := ⟨.hbm, 426, rfl⟩
abbrev main_v336 : Ref sig .tc := ⟨.hbm, 427, rfl⟩
abbrev main_c_60 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_c_61 : Ref sig .tc := ⟨.hbm, 434, rfl⟩
abbrev main_v342 : Ref sig .tc := ⟨.hbm, 435, rfl⟩
abbrev main_v343 : Ref sig .tc := ⟨.hbm, 436, rfl⟩
abbrev main_c_62 : Ref sig .tc := ⟨.hbm, 437, rfl⟩
abbrev main_v344 : Ref sig .tc := ⟨.hbm, 438, rfl⟩
abbrev main_v345 : Ref sig .tc := ⟨.hbm, 439, rfl⟩
abbrev main_v346 : Ref sig .tc := ⟨.hbm, 440, rfl⟩
abbrev main_v347 : Ref sig .tc := ⟨.hbm, 441, rfl⟩
abbrev main_v348 : Ref sig .tc := ⟨.hbm, 442, rfl⟩
abbrev main_c_63 : Ref sig .tc := ⟨.hbm, 443, rfl⟩
abbrev main_v349 : Ref sig .tc := ⟨.hbm, 444, rfl⟩
abbrev main_v350 : Ref sig .tc := ⟨.hbm, 445, rfl⟩
abbrev main_v351 : Ref sig .tc := ⟨.hbm, 446, rfl⟩
abbrev main_c_64 : Ref sig .tc := ⟨.hbm, 447, rfl⟩
abbrev main_v352 : Ref sig .tc := ⟨.hbm, 448, rfl⟩
abbrev main_v353 : Ref sig .tc := ⟨.hbm, 449, rfl⟩
abbrev main_c_65 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_call14_v0 : Ref sig .tc := ⟨.hbm, 456, rfl⟩
abbrev main_call14_v1 : Ref sig .tc := ⟨.hbm, 457, rfl⟩
abbrev main_call14_v2 : Ref sig .tc := ⟨.hbm, 458, rfl⟩
abbrev main_call14_v3 : Ref sig .tc := ⟨.hbm, 459, rfl⟩
abbrev main_call14_v4 : Ref sig .tc := ⟨.hbm, 460, rfl⟩
abbrev main_v359 : Ref sig .tc := ⟨.hbm, 461, rfl⟩
abbrev main_v360 : Ref sig .tc := ⟨.hbm, 462, rfl⟩
abbrev main_v361 : Ref sig .tc := ⟨.hbm, 463, rfl⟩
abbrev main_cst_66 : Ref sig .tc := ⟨.hbm, 464, rfl⟩
abbrev main_v362 : Ref sig .tc := ⟨.hbm, 465, rfl⟩
abbrev main_v363 : Ref sig .tc := ⟨.hbm, 466, rfl⟩
abbrev main_cst_67 : Ref sig .tc := ⟨.hbm, 467, rfl⟩
abbrev main_call15_v0 : Ref sig .tc := ⟨.hbm, 468, rfl⟩
abbrev main_call15_v1 : Ref sig .tc := ⟨.hbm, 469, rfl⟩
abbrev main_v364 : Ref sig .tc := ⟨.hbm, 470, rfl⟩
abbrev main_v365 : Ref sig .tc := ⟨.hbm, 471, rfl⟩
abbrev main_cst_68 : Ref sig .tc := ⟨.hbm, 472, rfl⟩
abbrev main_v366 : Ref sig .tc := ⟨.hbm, 473, rfl⟩
abbrev main_v367 : Ref sig .tc := ⟨.hbm, 474, rfl⟩
abbrev main_v368 : Ref sig .tc := ⟨.hbm, 475, rfl⟩
abbrev main_cst_69 : Ref sig .tc := ⟨.hbm, 476, rfl⟩
abbrev main_v369 : Ref sig .tc := ⟨.hbm, 477, rfl⟩
abbrev main_v370 : Ref sig .tc := ⟨.hbm, 478, rfl⟩
abbrev main_v371 : Ref sig .tc := ⟨.hbm, 479, rfl⟩
abbrev main_v372 : Ref sig .tc := ⟨.hbm, 480, rfl⟩
abbrev main_cst_70 : Ref sig .tc := ⟨.hbm, 481, rfl⟩
abbrev main_v373 : Ref sig .tc := ⟨.hbm, 482, rfl⟩
abbrev main_v374 : Ref sig .tc := ⟨.hbm, 483, rfl⟩
abbrev main_v375 : Ref sig .tc := ⟨.hbm, 484, rfl⟩
abbrev main_v376 : Ref sig .tc := ⟨.hbm, 485, rfl⟩
abbrev main_cst_71 : Ref sig .tc := ⟨.hbm, 486, rfl⟩
abbrev main_v377 : Ref sig .tc := ⟨.hbm, 487, rfl⟩
abbrev main_v378 : Ref sig .tc := ⟨.hbm, 488, rfl⟩
abbrev main_v379 : Ref sig .tc := ⟨.hbm, 489, rfl⟩
abbrev main_v380 : Ref sig .tc := ⟨.hbm, 490, rfl⟩
abbrev main_cst_72 : Ref sig .tc := ⟨.hbm, 491, rfl⟩
abbrev main_v381 : Ref sig .tc := ⟨.hbm, 492, rfl⟩
abbrev main_v382 : Ref sig .tc := ⟨.hbm, 493, rfl⟩
abbrev main_v383 : Ref sig .tc := ⟨.hbm, 494, rfl⟩

abbrev nD : Nat := 1
abbrev τ : Topo := Topo.v7x

variable {F : FTy → Type} [FloatOps F]
-- ==== Proof.Rank.lean ====
/- The greatest entries of a row: picked one by one, and by a stable sort. -/
module

public import Idealize.ShloMosaic.Lib.SortFacts
public import Idealize.ShloMosaic.PureOps.Ideal.Laws

@[expose] public section

set_option maxRecDepth 16384

noncomputable section

namespace Cert.Proof.Rank

open Idealize.ShloMosaic

variable {n : Nat}

/-- `a` comes before `b`: its entry is greater, or they tie and `a` is the lower position. -/
def Bef (f : Fin n → EReal) (a b : Fin n) : Prop := f b < f a ∨ (f b = f a ∧ a < b)

theorem Bef.irrefl (f : Fin n → EReal) (a : Fin n) : ¬ Bef f a a := by
  rintro (h | ⟨_, h⟩) <;> exact lt_irrefl _ h

theorem Bef.trans {f : Fin n → EReal} {a b c : Fin n} (h : Bef f a b) (h' : Bef f b c) : Bef f a c := by
  rcases h with h | ⟨e, h⟩ <;> rcases h' with h' | ⟨e', h'⟩
  · exact .inl (h'.trans h)
  · exact .inl (e' ▸ h)
  · exact .inl (e ▸ h')
  · exact .inr ⟨e'.trans e, h.trans h'⟩

theorem Bef.total {f : Fin n → EReal} {a b : Fin n} (h : ¬ Bef f a b) (ne : a ≠ b) : Bef f b a := by
  rcases lt_trichotomy (f a) (f b) with l | e | l
  · exact .inl l
  · rcases lt_or_gt_of_ne ne with l | l
    · exact absurd (.inr ⟨e.symm, l⟩) h
    · exact .inr ⟨e, l⟩
  · exact absurd (.inl l) h

open Classical in
/-- How many positions come before `a`. -/
def rank (f : Fin n → EReal) (a : Fin n) : Nat := (Finset.univ.filter fun b => Bef f b a).card

theorem rank_lt {f : Fin n → EReal} {a b : Fin n} (h : Bef f a b) : rank f a < rank f b := by
  classical
  refine Finset.card_lt_card ⟨fun c hc => ?_, fun hs => ?_⟩
  · rw [Finset.mem_filter] at hc ⊢
    exact ⟨hc.1, hc.2.trans h⟩
  · have := hs (Finset.mem_filter.mpr ⟨Finset.mem_univ a, h⟩)
    exact Bef.irrefl f a (Finset.mem_filter.mp this).2

theorem rank_inj (f : Fin n → EReal) : Function.Injective (rank f) := by
  intro a b h
  by_contra ne
  by_cases hb : Bef f a b
  · exact absurd h (rank_lt hb).ne
  · exact absurd h (rank_lt (Bef.total hb ne)).ne'

/-- No more than `r` positions have a rank below `r`. -/
theorem card_rank_lt (f : Fin n → EReal) (r : Nat) : (Finset.univ.filter fun a => rank f a < r).card ≤ r := by
  calc (Finset.univ.filter fun a => rank f a < r).card
      ≤ (Finset.range r).card := Finset.card_le_card_of_injOn (rank f)
        (fun a ha => by simpa using ha) (rank_inj f).injOn
    _ = r := Finset.card_range r

/-- `b` is the lowest position of the greatest entry. -/
def First (w : Fin n → EReal) (b : Fin n) : Prop := (∀ a, w a ≤ w b) ∧ ∀ a, w a = w b → b ≤ a

theorem First.eq {w : Fin n → EReal} {b c : Fin n} (h : First w b) (h' : First w c) : b = c := by
  have e : w b = w c := le_antisymm (h'.1 b) (h.1 c)
  exact le_antisymm (h.2 c e.symm) (h'.2 b e)

theorem First.exists (w : Fin n → EReal) (h0 : 0 < n) : ∃ b, First w b := by
  classical
  haveI : Nonempty (Fin n) := ⟨⟨0, h0⟩⟩
  obtain ⟨c, -, hc⟩ := Finset.exists_max_image Finset.univ w ⟨⟨0, h0⟩, Finset.mem_univ _⟩
  have hne : (Finset.univ.filter fun a => w a = w c).Nonempty := ⟨c, by simp⟩
  refine ⟨(Finset.univ.filter fun a => w a = w c).min' hne, ?_, ?_⟩
  · intro a
    have := (Finset.mem_filter.mp (Finset.min'_mem _ hne)).2
    rw [this]; exact hc a (Finset.mem_univ a)
  · intro a ha
    refine Finset.min'_le _ _ (Finset.mem_filter.mpr ⟨Finset.mem_univ a, ?_⟩)
    rw [ha]; exact (Finset.mem_filter.mp (Finset.min'_mem _ hne)).2

/-- The row once the positions of rank below `r` have been struck out with `-1`. -/
def struck (f : Fin n → EReal) (r : Nat) (a : Fin n) : EReal := if rank f a < r then -1 else f a

/-- The next position to be picked has rank `r`. -/
theorem First.rank_eq {f : Fin n → EReal} (hf : ∀ a, 0 ≤ f a) {r : Nat} (hr : r < n) {b : Fin n}
    (h : First (struck f r) b) : rank f b = r := by
  classical
  have neg : (-1 : EReal) < 0 := by
    rw [EReal.neg_lt_comm, neg_zero]; exact zero_lt_one
  obtain ⟨c, hc⟩ : ∃ c, ¬ rank f c < r := by
    by_contra hall
    push Not at hall
    have := card_rank_lt f r
    rw [Finset.filter_true_of_mem fun a _ => hall a, Finset.card_univ, Fintype.card_fin] at this
    omega
  have hb : ¬ rank f b < r := by
    intro hb
    have := h.1 c
    rw [struck, struck, if_neg hc, if_pos hb] at this
    exact absurd (lt_of_le_of_lt this neg) (not_lt.mpr (hf c))
  have sub : (Finset.univ.filter fun a => Bef f a b) ⊆ Finset.univ.filter fun a => rank f a < r := by
    intro a ha
    rw [Finset.mem_filter] at ha ⊢
    refine ⟨ha.1, ?_⟩
    by_contra hn
    have h1 := h.1 a
    have h2 := h.2 a
    rw [struck, struck, if_neg hn, if_neg hb] at h1 h2
    rcases ha.2 with l | ⟨e, l⟩
    · exact absurd l (not_lt.mpr h1)
    · exact absurd l (not_lt.mpr (h2 e.symm))
  have := (Finset.card_le_card sub).trans (card_rank_lt f r)
  exact le_antisymm this (not_lt.mp hb)

/-- Striking out the first greatest entry of the row struck `r` times strikes it once more. -/
theorem struck_succ {f : Fin n → EReal} (hf : ∀ a, 0 ≤ f a) {r : Nat} (hr : r < n) {b : Fin n}
    (h : First (struck f r) b) (a : Fin n) : (if a = b then -1 else struck f r a) = struck f (r + 1) a := by
  have hb := h.rank_eq hf hr
  unfold struck
  by_cases hab : a = b
  · subst hab; rw [if_pos rfl, if_pos (by omega)]
  · rw [if_neg hab]
    have : rank f a ≠ r := fun e => hab (rank_inj f (e.trans hb.symm))
    by_cases hlt : rank f a < r
    · rw [if_pos hlt, if_pos (by omega)]
    · rw [if_neg hlt, if_neg (by omega)]

theorem struck_zero (f : Fin n → EReal) : struck f 0 = f := by funext a; simp [struck]

/-! ## The stable sort -/

/-- An ascending list is sorted alike by a relation and by its refinement on ties to the lower position first. -/
theorem stableSort_refine (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    refine insertBefore_congr R R' a _ fun b hb => ?_
    exact h a b (hl.1 b ((perm_stableSort R' l).mem_iff.mp hb))

/-- The entry a stable sort by the greater first puts at position `k` has rank `k`. -/
theorem rank_sortedFrom (f : Fin n → EReal) (B : Fin n → Fin n → Bool) (hB : ∀ a b, B a b = true ↔ f b < f a)
    (k : Fin n) : rank f (sortedFrom B k) = k := by
  classical
  let R : Fin n → Fin n → Bool := fun a b => decide (Bef f a b)
  have hR : ∀ a b, R a b = true ↔ Bef f a b := fun a b => decide_eq_true_iff
  have e : sortPositions n B = sortPositions n R := by
    refine stableSort_refine B R (fun a b hab => ?_) _ (List.pairwise_lt_finRange n)
    rw [Bool.eq_iff_iff, hB, hR]
    constructor
    · exact fun h => .inl h
    · rintro (h | ⟨_, h⟩)
      · exact h
      · exact absurd h hab.not_gt
  have e' : sortedFrom B = sortedFrom R := by
    funext k
    unfold sortedFrom
    rw [List.get_of_eq e]
    rfl
  rw [e']
  have mono : ∀ i j : Fin n, i < j → Bef f (sortedFrom R i) (sortedFrom R j) := by
    intro i j hij
    have := sortedFrom_noInversion R R
      (fun a b h => by
        rw [hR] at h
        rw [Bool.eq_false_iff, Ne, hR]
        exact fun h' => Bef.irrefl f a (h.trans h'))
      (fun _ _ h => h)
      (fun a b c h1 h2 => by
        rw [Bool.eq_false_iff, Ne, hR] at h1 h2 ⊢
        intro h3
        by_cases hba : b = a
        · exact h2 (hba ▸ h3)
        · exact h2 ((Bef.total h1 (Ne.symm hba)).trans h3)) i j hij
    rw [Bool.eq_false_iff, Ne, hR] at this
    refine (Bef.total this ?_)
    exact fun h => hij.ne' (sortedFrom_injective R h)
  have : (Finset.univ.filter fun b => Bef f b (sortedFrom R k)) = (Finset.univ.filter fun i => i < k).image (sortedFrom R) := by
    ext b
    obtain ⟨i, rfl⟩ := sortedFrom_surjective R b
    simp only [Finset.mem_filter, Finset.mem_univ, true_and, Finset.mem_image]
    constructor
    · intro h
      refine ⟨i, ?_, rfl⟩
      rcases lt_trichotomy i k with l | rfl | l
      · exact l
      · exact absurd h (Bef.irrefl f _)
      · exact absurd (h.trans (mono k i l)) (Bef.irrefl f _)
    · rintro ⟨j, hj, e⟩
      rw [← e]; exact mono j k hj
  unfold rank
  rw [this, Finset.card_image_of_injective _ (sortedFrom_injective R), ← Fin.card_Iio k]
  exact congrArg _ (Finset.ext fun i => by rw [Finset.mem_filter, Finset.mem_Iio]; exact and_iff_right (Finset.mem_univ i))

end Cert.Proof.Rank
end
-- ==== Proof.Scalar.lean ====
/- The overlap score of a pair of boxes, as the kernel computes it and as the reference does. -/
module

public import Idealize.ShloMosaic.Lib.IdealHost
public import Idealize.ShloMosaic.PureOps.Ideal.Laws

@[expose] public section

set_option maxRecDepth 16384

noncomputable section

namespace Cert.Proof.Scalar

open Idealize.ShloMosaic

/-! ## The literals -/

/-- A pattern of a positive normal number is a positive real. -/
theorem lit_pos {b : BitVec 32} {m : Nat} {e : Int} (h : Ideal.ofBits .f32 b = (((m : ℝ) * (2 : ℝ) ^ e : ℝ) : EReal)) (hm : 0 < m) :
    ∃ r : ℝ, 0 < r ∧ Ideal.ofBits .f32 b = r := ⟨_, by positivity, h⟩

theorem lit_iou : ∃ r : ℝ, 0 < r ∧ Ideal.ofBits .f32 0x33D6BF95#32 = r := by
  refine lit_pos (m := 14073749) (e := -47) ?_ (by norm_num)
  simp [Ideal.ofBits, Ideal.ieee, -EReal.coe_mul]

theorem lit_eps : ∃ r : ℝ, 0 < r ∧ Ideal.ofBits .f32 0x3089705F#32 = r := by
  refine lit_pos (m := 9007199) (e := -53) ?_ (by norm_num)
  simp [Ideal.ofBits, Ideal.ieee, -EReal.coe_mul]

theorem lit_quarter : Ideal.ofBits .f32 0x3E800000#32 = ((1 / 4 : ℝ) : EReal) := by
  simp [Ideal.ofBits, Ideal.ieee, -EReal.coe_mul]; norm_num

theorem lit_four : Ideal.ofBits .f32 0x40800000#32 = ((4 : ℝ) : EReal) := by
  simp [Ideal.ofBits, Ideal.ieee, -EReal.coe_mul]; norm_num

theorem lit_six : Ideal.ofBits .f32 0x40C00000#32 = ((6 : ℝ) : EReal) := by
  simp [Ideal.ofBits, Ideal.ieee, -EReal.coe_mul]; norm_num

theorem lit_aspect : ∃ r : ℝ, 0 < r ∧ Ideal.ofBits .f32 0x3ECF817B#32 = r := by
  refine lit_pos (m := 13599099) (e := -25) ?_ (by norm_num)
  simp [Ideal.ofBits, Ideal.ieee, -EReal.coe_mul]

theorem lit_right : ∃ r : ℝ, 0 < r ∧ Ideal.ofBits .f32 0x3FC90FDB#32 = r := by
  refine lit_pos (m := 13176795) (e := -23) ?_ (by norm_num)
  simp [Ideal.ofBits, Ideal.ieee, -EReal.coe_mul]

theorem lit_neg_one : Ideal.ofBits .f32 0xBF800000#32 = -1 := by
  have h : Ideal.ofBits .f32 0xBF800000#32 = ((-1 : ℝ) : EReal) := by
    simp [Ideal.ofBits, Ideal.ieee, -EReal.coe_mul, -EReal.coe_neg]; norm_num
  rw [h, EReal.coe_neg, EReal.coe_one]

theorem lit_bot : Ideal.ofBits .f32 0xFF800000#32 = ⊥ := by
  simp [Ideal.ofBits, Ideal.ieee]

/-- The patterns of finite numbers are reals. -/
theorem lit_real (b : BitVec 32) (h : (b.extractLsb' 23 8).toNat ≠ 255) : ∃ r : ℝ, Ideal.ofBits .f32 b = r := by
  show ∃ r : ℝ, Ideal.ieee 8 23 b = r
  simp only [Ideal.ieee]
  rw [if_neg (by simpa using h)]
  split
  · exact ⟨_, rfl⟩
  · exact ⟨_, rfl⟩

/-! ## Arithmetic of reals inside the extended reals -/

theorem div_real (x : ℝ) {y : ℝ} (h : y ≠ 0) : Ideal.div (x : EReal) (y : EReal) = ((x / y : ℝ) : EReal) := by
  rw [Ideal.div_coe h, ← EReal.coe_mul]; congr 1; ring

theorem max_real (x y : ℝ) : max (x : EReal) (y : EReal) = ((max x y : ℝ) : EReal) := (EReal.coe_strictMono.monotone.map_max).symm
theorem min_real (x y : ℝ) : min (x : EReal) (y : EReal) = ((min x y : ℝ) : EReal) := (EReal.coe_strictMono.monotone.map_min).symm
theorem max_zero_real (x : ℝ) : max (x : EReal) 0 = ((max x 0 : ℝ) : EReal) := (EReal.coe_strictMono.monotone.map_max).symm

/-! ## The inverse tangent both programs use: an odd polynomial of degree 17 -/

/-- The argument folded into `[0, 1]`. -/
def fold (x : EReal) : EReal :=
  if (1 : EReal) < max x (-x) then Ideal.div 1 (max x (-x)) else max x (-x)

theorem one_top : ¬ (1 : EReal) = ⊤ := EReal.coe_ne_top 1

/-- The folded argument is a real number. -/
theorem fold_real (x : EReal) : ∃ z : ℝ, fold x = z := by
  unfold fold
  induction x using EReal.rec with
  | bot => exact ⟨0, by simp [Ideal.div, one_top]⟩
  | top => exact ⟨0, by simp [Ideal.div, one_top]⟩
  | coe r =>
    rw [← EReal.coe_neg, max_real]
    split
    · rename_i h
      have h' : (1 : ℝ) < max r (-r) := by exact_mod_cast h
      exact ⟨1 / max r (-r), by rw [← EReal.coe_one, div_real _ (by linarith)]⟩
    · exact ⟨_, rfl⟩

/-- The polynomial by Horner's scheme. -/
def horner (z : EReal) : EReal :=
  z * (((((((((Ideal.ofBits .f32 0x3B3BD74A#32 * (z * z) + Ideal.ofBits .f32 0xBC846E02#32) * (z * z) + Ideal.ofBits .f32 0x3D2FC1FE#32) * (z * z) + Ideal.ofBits .f32 0xBD9A3174#32) * (z * z)
    + Ideal.ofBits .f32 0x3DDA3D83#32) * (z * z) + Ideal.ofBits .f32 0xBE117FC7#32) * (z * z) + Ideal.ofBits .f32 0x3E4CBBE5#32) * (z * z) + Ideal.ofBits .f32 0xBEAAAA6C#32) * (z * z)) + 1)

/-- The polynomial as a sum of powers. -/
def series (z : EReal) : EReal :=
  0 + 1 * z + Ideal.ofBits .f32 0xBEAAAA6C#32 * (z * z * z) + Ideal.ofBits .f32 0x3E4CBBE5#32 * (z * (z * z * (z * z)))
    + Ideal.ofBits .f32 0xBE117FC7#32 * (z * (z * z) * (z * z * (z * z)))
    + Ideal.ofBits .f32 0x3DDA3D83#32 * (z * (z * z * (z * z) * (z * z * (z * z))))
    + Ideal.ofBits .f32 0xBD9A3174#32 * (z * (z * z) * (z * z * (z * z) * (z * z * (z * z))))
    + Ideal.ofBits .f32 0x3D2FC1FE#32 * (z * (z * z * (z * z)) * (z * z * (z * z) * (z * z * (z * z))))
    + Ideal.ofBits .f32 0xBC846E02#32 * (z * (z * z) * (z * z * (z * z)) * (z * z * (z * z) * (z * z * (z * z))))
    + Ideal.ofBits .f32 0x3B3BD74A#32 * (z * (z * z * (z * z) * (z * z * (z * z)) * (z * z * (z * z) * (z * z * (z * z)))))

/-- The two agree at a real, and are real. -/
theorem horner_series (z : ℝ) : ∃ p : ℝ, horner z = p ∧ series z = p := by
  obtain ⟨c0, e0⟩ := lit_real 0x3B3BD74A#32 (by decide)
  obtain ⟨c1, e1⟩ := lit_real 0xBC846E02#32 (by decide)
  obtain ⟨c2, e2⟩ := lit_real 0x3D2FC1FE#32 (by decide)
  obtain ⟨c3, e3⟩ := lit_real 0xBD9A3174#32 (by decide)
  obtain ⟨c4, e4⟩ := lit_real 0x3DDA3D83#32 (by decide)
  obtain ⟨c5, e5⟩ := lit_real 0xBE117FC7#32 (by decide)
  obtain ⟨c6, e6⟩ := lit_real 0x3E4CBBE5#32 (by decide)
  obtain ⟨c7, e7⟩ := lit_real 0xBEAAAA6C#32 (by decide)
  unfold horner series
  rw [e0, e1, e2, e3, e4, e5, e6, e7, ← EReal.coe_one, ← EReal.coe_zero]
  simp only [← EReal.coe_mul, ← EReal.coe_add]
  exact ⟨_, rfl, by congr 1; ring⟩

/-- The inverse tangent with its polynomial `p`. -/
def atan (p : EReal → EReal) (x : EReal) : EReal :=
  if x < 0 then -(if (1 : EReal) < max x (-x) then Ideal.ofBits .f32 0x3FC90FDB#32 - p (fold x) else p (fold x))
  else if (1 : EReal) < max x (-x) then Ideal.ofBits .f32 0x3FC90FDB#32 - p (fold x) else p (fold x)

/-- Both spellings of the polynomial give one real inverse tangent. -/
theorem atan_real (x : EReal) : ∃ t : ℝ, atan horner x = t ∧ atan series x = t := by
  obtain ⟨z, hz⟩ := fold_real x
  obtain ⟨p, hp, hs⟩ := horner_series z
  obtain ⟨q, -, hq⟩ := lit_right
  unfold atan
  rw [hz, hp, hs, hq, ← EReal.coe_sub]
  split_ifs
  · exact ⟨-(q - p), by rw [EReal.coe_neg], by rw [EReal.coe_neg]⟩
  · exact ⟨-p, by rw [EReal.coe_neg], by rw [EReal.coe_neg]⟩
  · exact ⟨_, rfl, rfl⟩
  · exact ⟨_, rfl, rfl⟩

/-! ## The score -/

/-- Width of a box. -/
def wid (a c : EReal) : EReal := c - a
/-- Height of a box, with the margin the score adds to it. -/
def hgt (b d : EReal) : EReal := d - b + Ideal.ofBits .f32 0x33D6BF95#32

/-- The area the boxes `g` and `p` share. -/
def inter (g p : Fin 4 → EReal) : EReal :=
  max (min (g 2) (p 2) - max (g 0) (p 0)) 0 * max (min (g 3) (p 3) - max (g 1) (p 1)) 0

/-- The shared area over the area of the union. -/
def iou (g p : Fin 4 → EReal) : EReal :=
  Ideal.div (inter g p) (wid (g 0) (g 2) * hgt (g 1) (g 3) + wid (p 0) (p 2) * hgt (p 1) (p 3) - inter g p + Ideal.ofBits .f32 0x33D6BF95#32)

/-- The squared diagonal of the box that holds both. -/
def diag (g p : Fin 4 → EReal) : EReal :=
  (max (g 2) (p 2) - min (g 0) (p 0)) * (max (g 2) (p 2) - min (g 0) (p 0))
    + (max (g 3) (p 3) - min (g 1) (p 1)) * (max (g 3) (p 3) - min (g 1) (p 1)) + Ideal.ofBits .f32 0x33D6BF95#32

/-- The squared distance of the centres, as the kernel has it. -/
def distK (g p : Fin 4 → EReal) : EReal :=
  ((p 0 + p 2 - (g 0 + g 2)) * (p 0 + p 2 - (g 0 + g 2)) + (p 1 + p 3 - (g 1 + g 3)) * (p 1 + p 3 - (g 1 + g 3)))
    * Ideal.ofBits .f32 0x3E800000#32

/-- The squared distance of the centres, as the reference has it. -/
def distR (g p : Fin 4 → EReal) : EReal :=
  Ideal.div ((p 0 + p 2 - g 0 - g 2) * (p 0 + p 2 - g 0 - g 2) + (p 1 + p 3 - g 1 - g 3) * (p 1 + p 3 - g 1 - g 3))
    (Ideal.ofBits .f32 0x40800000#32)

/-- The mismatch of the boxes' proportions. -/
def aspect (q : EReal → EReal) (g p : Fin 4 → EReal) : EReal :=
  Ideal.ofBits .f32 0x3ECF817B#32 * ((atan q (Ideal.div (wid (p 0) (p 2)) (hgt (p 1) (p 3))) - atan q (Ideal.div (wid (g 0) (g 2)) (hgt (g 1) (g 3))))
    * (atan q (Ideal.div (wid (p 0) (p 2)) (hgt (p 1) (p 3))) - atan q (Ideal.div (wid (g 0) (g 2)) (hgt (g 1) (g 3)))))

/-- The score by one division, as the kernel has it. -/
def scoreK (g p : Fin 4 → EReal) : EReal :=
  iou g p - Ideal.div (distK g p * (aspect horner g p - iou g p + 1) + aspect horner g p * aspect horner g p * diag g p)
    (diag g p * (aspect horner g p - iou g p + 1))

/-- The score by two divisions, as the reference has it. -/
def scoreR (g p : Fin 4 → EReal) : EReal :=
  iou g p - (Ideal.div (distR g p) (diag g p) + aspect series g p * Ideal.div (aspect series g p) (aspect series g p - iou g p + 1))

/-- The ratio of areas is below one, or it is the quotient of two zeros. -/
theorem iou_cases (g p : Fin 4 → ℝ) (hx : g 0 < g 2) (hy : g 1 < g 3) :
    iou (fun k => (g k : EReal)) (fun k => (p k : EReal)) = ⊥
      ∨ ∃ r : ℝ, r < 1 ∧ iou (fun k => (g k : EReal)) (fun k => (p k : EReal)) = r := by
  obtain ⟨e, he, hl⟩ := lit_iou
  unfold iou inter wid hgt
  rw [hl]
  simp only [← EReal.coe_sub, ← EReal.coe_add, ← EReal.coe_mul, max_real, min_real, max_zero_real]
  set X := max (min (g 2) (p 2) - max (g 0) (p 0)) 0 with hX
  set Y := max (min (g 3) (p 3) - max (g 1) (p 1)) 0 with hY
  have hX0 : 0 ≤ X := le_max_right _ _
  have hY0 : 0 ≤ Y := le_max_right _ _
  by_cases hI : X * Y = 0
  · rw [hI]
    by_cases hU : (g 2 - g 0) * (g 3 - g 1 + e) + (p 2 - p 0) * (p 3 - p 1 + e) - 0 + e = 0
    · left; rw [hU]; simp [Ideal.div]
    · right; exact ⟨0, one_pos, by rw [div_real _ hU, zero_div]⟩
  · right
    have hXp : 0 < X := lt_of_le_of_ne hX0 fun h => hI (by rw [← h, zero_mul])
    have hYp : 0 < Y := lt_of_le_of_ne hY0 fun h => hI (by rw [← h, mul_zero])
    have bx : X ≤ g 2 - g 0 ∧ X ≤ p 2 - p 0 := by
      have : X = min (g 2) (p 2) - max (g 0) (p 0) := by
        rcases max_choice (min (g 2) (p 2) - max (g 0) (p 0)) 0 with h | h
        · exact h
        · exact absurd (hX.trans h) hXp.ne'
      rw [this]
      constructor
      · linarith [min_le_left (g 2) (p 2), le_max_left (g 0) (p 0)]
      · linarith [min_le_right (g 2) (p 2), le_max_right (g 0) (p 0)]
    have by' : Y ≤ g 3 - g 1 ∧ Y ≤ p 3 - p 1 := by
      have : Y = min (g 3) (p 3) - max (g 1) (p 1) := by
        rcases max_choice (min (g 3) (p 3) - max (g 1) (p 1)) 0 with h | h
        · exact h
        · exact absurd (hY.trans h) hYp.ne'
      rw [this]
      constructor
      · linarith [min_le_left (g 3) (p 3), le_max_left (g 1) (p 1)]
      · linarith [min_le_right (g 3) (p 3), le_max_right (g 1) (p 1)]
    have b1 : X * Y ≤ (g 2 - g 0) * (g 3 - g 1 + e) :=
      mul_le_mul bx.1 (by linarith) hY0 (by linarith)
    have b2 : X * Y ≤ (p 2 - p 0) * (p 3 - p 1 + e) :=
      mul_le_mul bx.2 (by linarith) hY0 (by linarith)
    have hXY : 0 < X * Y := mul_pos hXp hYp
    have hU : X * Y < (g 2 - g 0) * (g 3 - g 1 + e) + (p 2 - p 0) * (p 3 - p 1 + e) - X * Y + e := by linarith
    refine ⟨_, ?_, div_real _ (by linarith)⟩
    rw [div_lt_one (by linarith)]
    exact hU

/-- For a box `g` of positive sides and any real box `p` the two scores are equal; cut off at zero they are a real number. -/
theorem score_eq (g p : Fin 4 → ℝ) (hx : g 0 < g 2) (hy : g 1 < g 3) :
    scoreK (fun k => (g k : EReal)) (fun k => (p k : EReal)) = scoreR (fun k => (g k : EReal)) (fun k => (p k : EReal))
      ∧ ∃ r : ℝ, 0 ≤ r ∧ max (scoreR (fun k => (g k : EReal)) (fun k => (p k : EReal))) 0 = r := by
  obtain ⟨v, hv, e1, e2⟩ : ∃ v : ℝ, 0 ≤ v ∧ aspect horner (fun k => (g k : EReal)) (fun k => (p k : EReal)) = v
      ∧ aspect series (fun k => (g k : EReal)) (fun k => (p k : EReal)) = v := by
    obtain ⟨c, hc, hl⟩ := lit_aspect
    unfold aspect
    obtain ⟨s, hs, hs'⟩ := atan_real (Ideal.div (wid (p 0 : EReal) (p 2)) (hgt (p 1) (p 3)))
    obtain ⟨t, ht, ht'⟩ := atan_real (Ideal.div (wid (g 0 : EReal) (g 2)) (hgt (g 1) (g 3)))
    rw [hs, hs', ht, ht', hl]
    simp only [← EReal.coe_sub, ← EReal.coe_mul]
    exact ⟨_, mul_nonneg hc.le (mul_self_nonneg _), rfl, rfl⟩
  obtain ⟨c, hc, e3⟩ : ∃ c : ℝ, 0 < c ∧ diag (fun k => (g k : EReal)) (fun k => (p k : EReal)) = c := by
    obtain ⟨e, he, hl⟩ := lit_iou
    unfold diag
    rw [hl]
    simp only [← EReal.coe_sub, ← EReal.coe_add, ← EReal.coe_mul, max_real, min_real]
    exact ⟨_, by nlinarith [mul_self_nonneg (max (g 2) (p 2) - min (g 0) (p 0)), mul_self_nonneg (max (g 3) (p 3) - min (g 1) (p 1))], rfl⟩
  obtain ⟨d, e4, e5⟩ : ∃ d : ℝ, distK (fun k => (g k : EReal)) (fun k => (p k : EReal)) = d
      ∧ distR (fun k => (g k : EReal)) (fun k => (p k : EReal)) = d := by
    unfold distK distR
    rw [lit_quarter, lit_four]
    simp only [← EReal.coe_sub, ← EReal.coe_add, ← EReal.coe_mul]
    rw [div_real _ (by norm_num)]
    exact ⟨_, rfl, by congr 1; ring⟩
  unfold scoreK scoreR
  rw [e1, e2, e3, e4, e5]
  rcases iou_cases g p hx hy with h | ⟨r, hr, h⟩
  · rw [h]
    have b : ∀ x : EReal, ⊥ - x = ⊥ := fun x => by rw [sub_eq_add_neg, EReal.bot_add]
    rw [b, b]
    exact ⟨rfl, 0, le_rfl, by simp⟩
  · rw [h, ← EReal.coe_one]
    simp only [← EReal.coe_sub, ← EReal.coe_add, ← EReal.coe_mul]
    have hd : 0 < v - r + 1 := by linarith
    rw [div_real _ (by positivity), div_real _ hc.ne', div_real _ hd.ne']
    simp only [← EReal.coe_sub, ← EReal.coe_add, ← EReal.coe_mul]
    refine ⟨congrArg _ ?_, _, le_max_right _ _, max_zero_real _⟩
    field_simp

/-- The first power is the number itself. -/
theorem pow_one (x : EReal) : Ideal.pow x 1 = x := by
  induction x using EReal.rec with
  | bot => rfl
  | top => simp
  | coe r => rw [← EReal.coe_one, Ideal.pow_coe_coe]; exact congrArg _ (Real.rpow_one r)

/-- The sixth power of a real number by products. -/
theorem pow_six (r : ℝ) : Ideal.pow (r : EReal) (Ideal.ofBits .f32 0x40C00000#32) = (r * r : EReal) * (r * r) * (r * r) := by
  rw [lit_six, Ideal.pow_coe_coe]
  simp only [← EReal.coe_mul]
  refine congrArg _ ?_
  show r ^ (6 : ℝ) = _
  rw [show (6 : ℝ) = ((6 : ℕ) : ℝ) by norm_num, Real.rpow_natCast]; ring

end Cert.Proof.Scalar
end
-- ==== Proof.Spec.lean ====
/- The assignment of one image's anchors to its ground-truth boxes, as mathematics over the extended reals. -/
module

public import proofs.«01_k».proof.Proof.Rank
public import proofs.«01_k».proof.Proof.Scalar

@[expose] public section

set_option maxRecDepth 16384

noncomputable section

namespace Cert.Proof.Spec

open Idealize.ShloMosaic Cert.Proof.Rank Cert.Proof.Scalar

/-- One image: scores and boxes of the anchors, the anchors' points, labels, boxes and marks of the ground truth. -/
structure Image where
  ps : Fin 8400 → Fin 80 → EReal
  pb : Fin 8400 → Fin 4 → EReal
  an : Fin 8400 → Fin 2 → EReal
  lab : Fin 32 → BitVec 32
  gt : Fin 32 → Fin 4 → EReal
  mg : Fin 32 → EReal

/-- Scores that are not negative, boxes of real corners, labels that name a class. -/
structure Image.Valid (I : Image) : Prop where
  ps : ∀ a c, 0 ≤ I.ps a c
  pb : ∀ a, ∃ p : Fin 4 → ℝ, I.pb a = fun k => (p k : EReal)
  gt : ∀ m, ∃ g : Fin 4 → ℝ, I.gt m = fun k => (g k : EReal)
  lab : ∀ m, (I.lab m).toNat < 80

variable (I : Image)

/-- The class of a ground-truth box. -/
def cls (m : Fin 32) : Fin 80 := ⟨(I.lab m).toNat % 80, Nat.mod_lt _ (by norm_num)⟩

/-- The anchor lies inside the box, by a margin. -/
def Inside (m : Fin 32) (a : Fin 8400) : Prop :=
  I.gt m 0 + Ideal.ofBits .f32 0x3089705F#32 < I.an a 0 ∧ I.gt m 1 + Ideal.ofBits .f32 0x3089705F#32 < I.an a 1
    ∧ I.an a 0 < I.gt m 2 - Ideal.ofBits .f32 0x3089705F#32 ∧ I.an a 1 < I.gt m 3 - Ideal.ofBits .f32 0x3089705F#32

/-- The pair counts: the anchor is inside and the box is marked. -/
def On (m : Fin 32) (a : Fin 8400) : Prop := Inside I m a ∧ I.mg m ≠ 0

open Classical in
/-- The overlap of a box and an anchor's box. -/
def ovl (m : Fin 32) (a : Fin 8400) : EReal := if On I m a then max (scoreR (I.gt m) (I.pb a)) 0 else 0

open Classical in
/-- How well a pair fits: the anchor's score for the box's class times the sixth power of the overlap. -/
def al (m : Fin 32) (a : Fin 8400) : EReal :=
  (if On I m a then I.ps a (cls I m) else 0) * (ovl I m a * ovl I m a * (ovl I m a * ovl I m a) * (ovl I m a * ovl I m a))

open Classical in
/-- The mark of a pair: the anchor is among the box's thirteen best, and inside it. -/
def mp (m : Fin 32) (a : Fin 8400) : EReal :=
  (if rank (al I m) a < 13 then 1 else 0) * (if Inside I m a then 1 else 0) * I.mg m

/-- The lowest position of the greatest entry. -/
def first (w : Fin 32 → EReal) : Fin 32 := (First.exists w (by norm_num)).choose

theorem first_spec (w : Fin 32 → EReal) : First w (first w) := (First.exists w (by norm_num)).choose_spec

/-- The marks with an anchor of several boxes given to the one it overlaps most. -/
def mp2 (m : Fin 32) (a : Fin 8400) : EReal :=
  if 1 < ∑ m, mp I m a then (if m = first (fun m => ovl I m a) then 1 else 0) else mp I m a

/-- How many boxes an anchor has in the end. -/
def fg (a : Fin 8400) : EReal := ∑ m, mp2 I m a

/-- The box an anchor is given. -/
def tg (a : Fin 8400) : Fin 32 := first fun m => mp2 I m a

/-- The best fit of a box. -/
def bestAl (m : Fin 32) : EReal := Finset.univ.fold max ⊥ fun a => al I m a * mp2 I m a
/-- The best overlap of a box. -/
def bestOvl (m : Fin 32) : EReal := Finset.univ.fold max ⊥ fun a => ovl I m a * mp2 I m a

/-- The weight of an anchor's target score. -/
def norm (a : Fin 8400) : EReal :=
  Finset.univ.fold max ⊥ fun m => Ideal.div (al I m a * mp2 I m a * bestOvl I m) (bestAl I m + Ideal.ofBits .f32 0x3089705F#32)

/-- The target score of an anchor for a class. -/
def ts (a : Fin 8400) (c : Fin 80) : EReal := if 0 < fg I a ∧ cls I (tg I a) = c then norm I a else 0

variable {I}

/-- A marked box with an anchor inside it has positive sides. -/
theorem Inside.sides (m : Fin 32) (a : Fin 8400) (g : Fin 4 → ℝ) (hg : I.gt m = fun k => (g k : EReal))
    (h : Inside I m a) : g 0 < g 2 ∧ g 1 < g 3 := by
  obtain ⟨e, he, hl⟩ := lit_eps
  obtain ⟨h0, h1, h2, h3⟩ := h
  rw [hl, hg] at h0 h1 h2 h3
  have a0 := h0.trans h2
  have a1 := h1.trans h3
  simp only [← EReal.coe_add, ← EReal.coe_sub, EReal.coe_lt_coe_iff] at a0 a1
  constructor <;> linarith

/-- On a pair that counts the kernel's score is the reference's, and it is real once cut off at zero. -/
theorem On.score (hI : I.Valid) {m : Fin 32} {a : Fin 8400} (h : On I m a) :
    scoreK (I.gt m) (I.pb a) = scoreR (I.gt m) (I.pb a) ∧ ∃ r : ℝ, 0 ≤ r ∧ max (scoreR (I.gt m) (I.pb a)) 0 = r := by
  obtain ⟨g, hg⟩ := hI.gt m
  obtain ⟨p, hp⟩ := hI.pb a
  obtain ⟨hx, hy⟩ := Inside.sides m a g hg h.1
  rw [hg, hp]
  exact score_eq g p hx hy

/-- Overlaps are real numbers that are not negative. -/
theorem ovl_real (hI : I.Valid) (m : Fin 32) (a : Fin 8400) : ∃ r : ℝ, 0 ≤ r ∧ ovl I m a = r := by
  unfold ovl
  split
  · rename_i h; exact (h.score hI).2
  · exact ⟨0, le_rfl, EReal.coe_zero.symm⟩

/-- Fits are not negative. -/
theorem al_nonneg (hI : I.Valid) (m : Fin 32) (a : Fin 8400) : 0 ≤ al I m a := by
  obtain ⟨r, hr, e⟩ := ovl_real hI m a
  unfold al
  rw [e]
  refine mul_nonneg ?_ ?_
  · split
    · exact hI.ps _ _
    · exact le_rfl
  · simp only [← EReal.coe_mul]
    exact EReal.coe_nonneg.mpr (by positivity)

end Cert.Proof.Spec
end
-- ==== Proof.Arg.lean ====
/- The lowest position of the greatest entry, found by a smallest number, and flags as numbers. -/
module

public import proofs.«01_k».proof.Proof.Rank
public import proofs.«01_k».proof.Proof.Scalar
public import Idealize.ShloMosaic.Lib.Pointwise

@[expose] public section

set_option maxRecDepth 16384

noncomputable section

namespace Cert.Proof.Arg

open Idealize.ShloMosaic Cert.Proof.Rank Cert.Proof.Scalar

/-- The greatest entry is the one at the lowest position of the greatest entry. -/
theorem fold_max {n : Nat} {w : Fin n → EReal} {b : Fin n} (h : First w b) : Finset.univ.fold max ⊥ w = w b :=
  le_antisymm (Finset.fold_max_le _ |>.mpr ⟨bot_le, fun a _ => h.1 a⟩)
    (Finset.le_fold_max _ |>.mpr (.inr ⟨b, Finset.mem_univ b, le_rfl⟩))

/-- The smallest of some words, the least of which is `v`. -/
theorem fold_minsi {n : Nat} (f : Fin n → BitVec 32) (v : Nat) (hv : v < 2147483648) (b : Fin n)
    (hb : f b = BitVec.ofNat 32 v) (h : ∀ x, (v : Int) ≤ (f x).toInt) :
    Finset.univ.fold IntOp.minsi 2147483647#32 f = BitVec.ofNat 32 v := by
  have hn : (BitVec.ofNat 32 v).toInt = v := by
    rw [BitVec.toInt_eq_toNat_of_lt] <;> rw [BitVec.toNat_ofNat] <;> omega
  apply BitVec.eq_of_toInt_eq
  rw [hn, ← Finset.fold_hom (op' := min) (m := BitVec.toInt) (fun x y => by
    unfold IntOp.minsi
    by_cases hxy : x.slt y
    · rw [if_pos hxy, min_eq_left]
      exact le_of_lt (BitVec.slt_iff_toInt_lt.mp hxy)
    · rw [if_neg hxy, min_eq_right]
      exact not_lt.mp fun q => hxy (BitVec.slt_iff_toInt_lt.mpr q))]
  apply le_antisymm
  · refine Finset.fold_min_le _ |>.mpr (.inr ⟨b, Finset.mem_univ b, ?_⟩)
    rw [hb, hn]
  · refine Finset.le_fold_min _ |>.mpr ⟨?_, fun x _ => h x⟩
    have : (2147483647#32).toInt = 2147483647 := by decide
    omega

/-- Small numbers and their words. -/
theorem ofNat_inj {i j : Nat} (hi : i < 4294967296) (hj : j < 4294967296) : BitVec.ofNat 32 i = BitVec.ofNat 32 j ↔ i = j := by
  constructor
  · intro h
    have := congrArg BitVec.toNat h
    simpa [BitVec.toNat_ofNat, Nat.mod_eq_of_lt hi, Nat.mod_eq_of_lt hj] using this
  · rintro rfl; rfl

/-- The least position where the entry is the greatest one. -/
theorem least {n : Nat} (hn : n ≤ 1073741824) {w : Fin n → EReal} {b : Fin n} (h : First w b) :
    Finset.univ.fold IntOp.minsi 2147483647#32
      (fun x => if w x = Finset.univ.fold max (Ideal.ofBits .f32 0xFF800000#32) w then BitVec.ofNat 32 x.1 else 1073741824#32)
      = BitVec.ofNat 32 b.1 := by
  have hb := b.2
  rw [lit_bot, fold_max h]
  refine fold_minsi _ _ (by omega) b (if_pos rfl) fun x => ?_
  have hx := x.2
  split
  · rename_i e
    rw [BitVec.toInt_eq_toNat_of_lt] <;> rw [BitVec.toNat_ofNat, Nat.mod_eq_of_lt (by omega)]
    · exact_mod_cast h.2 x e
    · omega
  · have : (1073741824#32).toInt = 1073741824 := by decide
    omega

/-- A flag as a number. -/
theorem flag (b : BitVec 1) : (FloatOps.sitofp FTy.f32 (BitVec.setWidth 32 b) : Ideal .f32) = if b = 1#1 then (1 : EReal) else 0 := by
  have : b = 0#1 ∨ b = 1#1 := by
    revert b; decide
  rcases this with rfl | rfl
  · show (((BitVec.setWidth 32 0#1).toInt : ℝ) : EReal) = _
    simp
  · show (((BitVec.setWidth 32 1#1).toInt : ℝ) : EReal) = _
    simp

/-- Whether two words are the same, as a number. -/
theorem flag_eq (x y : BitVec 32) :
    (FloatOps.sitofp FTy.f32 (BitVec.setWidth 32 (IntOp.cmpi .eq x y)) : Ideal .f32) = if x = y then (1 : EReal) else 0 := by
  rw [flag]
  by_cases h : x = y
  · simp [IntOp.cmpi, h]
  · have e : (x == y) = false := beq_eq_false_iff_ne.mpr h
    simp [IntOp.cmpi, h, e]

/-- Whether two positions are the same, as a number. -/
theorem flag_pos {n : Nat} (hn : n ≤ 1073741824) (i j : Fin n) :
    (FloatOps.sitofp FTy.f32 (BitVec.setWidth 32 (IntOp.cmpi .eq (BitVec.ofNat 32 i.1) (BitVec.ofNat 32 j.1))) : Ideal .f32)
      = if i = j then (1 : EReal) else 0 := by
  have hi := i.2
  have hj := j.2
  rw [flag_eq]
  simp only [ofNat_inj (show i.1 < 4294967296 by omega) (show j.1 < 4294967296 by omega), Fin.ext_iff]

/-- Two flags together. -/
theorem andi_one (x y : BitVec 1) : IntOp.andi x y = 1#1 ↔ x = 1#1 ∧ y = 1#1 := by
  revert x y; decide

/-- The flag of a proposition. -/
theorem ofBool_one (p : Prop) [Decidable p] : BitVec.ofBool (decide p) = 1#1 ↔ p := by
  by_cases h : p <;> simp [h]

/-- A sum with one term that counts. -/
theorem sum_pick {n : Nat} (b : Fin n) (f : Fin n → EReal) : (∑ x, (if x = b then (1 : EReal) else 0) * f x) = f b := by
  rw [Finset.sum_eq_single b]
  · simp
  · intro x _ h; simp [h]
  · simp

end Cert.Proof.Arg
end
-- ==== Proof.KPoint.lean ====
/- The kernel's arrays at a pair of a box and an anchor. -/
module

public import proofs.«01_k».proof.Proof.Gen.KernelIdeal.Frame
public import proofs.«01_k».proof.Proof.Spec
public import proofs.«01_k».proof.Proof.Arg
public import Idealize.ShloMosaic.Lib.Pointwise

@[expose] public section

set_option maxRecDepth 16384
set_option pp.maxSteps 400

noncomputable section

namespace Cert.Proof.Ker

open Idealize.ShloMosaic Idealize.ShloMosaic.TcCoe Cert.KernelIdeal Cert.KernelIdeal.Gen
open Cert.Proof.Spec Cert.Proof.Scalar Cert.Proof.Arg Cert.Proof.Rank

attribute [local instance] Cert.KernelIdeal.Gen.facts

variable (x0 : Vec Ideal S1x8400x80 .f32) (x1 : Vec Ideal S1x4x8400 .f32) (x2 : Vec Ideal S2x8400 .f32)
  (x3 : Vec Ideal S1x32x1 .i32) (x4 : Vec Ideal S1x32x4 .f32) (x5 : Vec Ideal S1x32x1 .f32)

/-- Zero less a value is the value negated. -/
theorem zero_minus (x : EReal) : 0 - x = -x := by
  rw [sub_eq_add_neg, zero_add]

/-- The image the blocks hold. -/
def img : Image where
  ps a c := x0 (ix3 0 a c)
  pb a k := x1 (ix3 0 k a)
  an a k := x2 (ix2 k a)
  lab m := x3 (ix3 0 m 0)
  gt m k := x4 (ix3 0 m k)
  mg m := x5 (ix3 0 m 0)

/-- A box's left edge. -/
theorem gt0 (m : Fin 32) : k0_pay66 (F := Ideal) x0 x1 x2 x3 x4 x5 (ix2 m 0) = (img x0 x1 x2 x3 x4 x5).gt m 0 := by
  pointwise [k0_pay66, k0_pay10, k0_pay4, img]

/-- A box's top edge. -/
theorem gt1 (m : Fin 32) : k0_pay67 (F := Ideal) x0 x1 x2 x3 x4 x5 (ix2 m 0) = (img x0 x1 x2 x3 x4 x5).gt m 1 := by
  pointwise [k0_pay67, k0_pay11, k0_pay4, img]

/-- A box's right edge. -/
theorem gt2 (m : Fin 32) : k0_pay68 (F := Ideal) x0 x1 x2 x3 x4 x5 (ix2 m 0) = (img x0 x1 x2 x3 x4 x5).gt m 2 := by
  pointwise [k0_pay68, k0_pay12, k0_pay4, img]

/-- A box's bottom edge. -/
theorem gt3 (m : Fin 32) : k0_pay69 (F := Ideal) x0 x1 x2 x3 x4 x5 (ix2 m 0) = (img x0 x1 x2 x3 x4 x5).gt m 3 := by
  pointwise [k0_pay69, k0_pay13, k0_pay4, img]

/-- The left edge of an anchor's box. -/
theorem pb0 (a : Fin 8400) : k0_pay74 (F := Ideal) x0 x1 x2 x3 x4 x5 (ix2 0 a) = (img x0 x1 x2 x3 x4 x5).pb a 0 := by
  pointwise [k0_pay74, k0_pay18, k0_pay62, k0_pay3, img]

/-- The top edge of an anchor's box. -/
theorem pb1 (a : Fin 8400) : k0_pay75 (F := Ideal) x0 x1 x2 x3 x4 x5 (ix2 0 a) = (img x0 x1 x2 x3 x4 x5).pb a 1 := by
  pointwise [k0_pay75, k0_pay19, k0_pay62, k0_pay3, img]

/-- The right edge of an anchor's box. -/
theorem pb2 (a : Fin 8400) : k0_pay76 (F := Ideal) x0 x1 x2 x3 x4 x5 (ix2 0 a) = (img x0 x1 x2 x3 x4 x5).pb a 2 := by
  pointwise [k0_pay76, k0_pay20, k0_pay62, k0_pay3, img]

/-- The bottom edge of an anchor's box. -/
theorem pb3 (a : Fin 8400) : k0_pay77 (F := Ideal) x0 x1 x2 x3 x4 x5 (ix2 0 a) = (img x0 x1 x2 x3 x4 x5).pb a 3 := by
  pointwise [k0_pay77, k0_pay21, k0_pay62, k0_pay3, img]

/-- Coordinate 0 of an anchor. -/
theorem an0 (a : Fin 8400) : k0_pay64 (F := Ideal) x0 x1 x2 x3 x4 x5 (ix2 0 a) = (img x0 x1 x2 x3 x4 x5).an a 0 := by
  pointwise [k0_pay64, k0_pay8, img]

/-- Coordinate 1 of an anchor. -/
theorem an1 (a : Fin 8400) : k0_pay65 (F := Ideal) x0 x1 x2 x3 x4 x5 (ix2 0 a) = (img x0 x1 x2 x3 x4 x5).an a 1 := by
  pointwise [k0_pay65, k0_pay9, img]

/-- A box's mark. -/
theorem mg (m : Fin 32) : k0_pay63 (F := Ideal) x0 x1 x2 x3 x4 x5 (ix2 m 0) = (img x0 x1 x2 x3 x4 x5).mg m := by
  pointwise [k0_pay63, k0_pay5, img]

/-- A box's corners. -/
theorem gtb (m : Fin 32) (k : Fin 4) : k0_pay4 (F := Ideal) (View.ld x4 r0_2) (ix2 m k) = (img x0 x1 x2 x3 x4 x5).gt m k := by
  pointwise [k0_pay4, img]

/-- The flag of an anchor inside a box. -/
theorem inside (m : Fin 32) (a : Fin 8400) : k0_pay72 (F := Ideal) x0 x1 x2 x3 x4 x5 (ix2 m a) = 1#1 ↔ Inside (img x0 x1 x2 x3 x4 x5) m a := by
  pointwise [k0_pay72, k0_pay16, k0_pay71, k0_pay15, k0_pay70, k0_pay14, gt0, gt1, gt2, gt3, an0, an1, k0_pay8, k0_pay9, k0_pay10, k0_pay11, k0_pay4]
  simp only [andi_one, ofBool_one]
  exact ⟨fun h => ⟨h.1.1.1, h.1.1.2, h.1.2, h.2⟩, fun h => ⟨⟨⟨h.1, h.2.1⟩, h.2.2.1⟩, h.2.2.2⟩⟩

/-- The flag of a pair that counts. -/
theorem on (m : Fin 32) (a : Fin 8400) : k0_pay73 (F := Ideal) x0 x1 x2 x3 x4 x5 (ix2 m a) = 1#1 ↔ On (img x0 x1 x2 x3 x4 x5) m a := by
  have h : k0_pay73 (F := Ideal) x0 x1 x2 x3 x4 x5 (ix2 m a) = IntOp.andi (k0_pay72 (F := Ideal) x0 x1 x2 x3 x4 x5 (ix2 m a)) (BitVec.ofBool (decide ((img x0 x1 x2 x3 x4 x5).mg m ≠ 0))) := by
    pointwise [k0_pay73, k0_pay17, k0_pay72, mg]
  rw [h, andi_one, inside, ofBool_one]
  rfl

/-- The ratio of areas. -/
theorem iouV (m : Fin 32) (a : Fin 8400) : k0_pay82 (F := Ideal) x0 x1 x2 x3 x4 x5 (ix2 m a) = iou ((img x0 x1 x2 x3 x4 x5).gt m) ((img x0 x1 x2 x3 x4 x5).pb a) := by
  pointwise [k0_pay82, k0_pay29, k0_pay26, k0_pay27, k0_pay28, k0_pay22, k0_pay23, k0_pay24, k0_pay25, k0_pay18, k0_pay19, k0_pay20, k0_pay21, k0_pay62, k0_pay3, gt0, gt1, gt2, gt3]
  rfl

/-- The squared diagonal. -/
theorem diagV (m : Fin 32) (a : Fin 8400) : k0_pay83 (F := Ideal) x0 x1 x2 x3 x4 x5 (ix2 m a) = diag ((img x0 x1 x2 x3 x4 x5).gt m) ((img x0 x1 x2 x3 x4 x5).pb a) := by
  pointwise [k0_pay83, k0_pay30, gt0, gt1, gt2, gt3, pb0, pb1, pb2, pb3]
  rfl

/-- The squared distance. -/
theorem distV (m : Fin 32) (a : Fin 8400) : k0_pay84 (F := Ideal) x0 x1 x2 x3 x4 x5 (ix2 m a) = distK ((img x0 x1 x2 x3 x4 x5).gt m) ((img x0 x1 x2 x3 x4 x5).pb a) := by
  pointwise [k0_pay84, k0_pay31, gt0, gt1, gt2, gt3, pb0, pb1, pb2, pb3]
  rfl

/-- Width of an anchor's box. -/
theorem pw (a : Fin 8400) : k0_pay80 (F := Ideal) x0 x1 x2 x3 x4 x5 (ix2 0 a) = wid ((img x0 x1 x2 x3 x4 x5).pb a 0) ((img x0 x1 x2 x3 x4 x5).pb a 2) := by
  pointwise [k0_pay80, k0_pay24, k0_pay18, k0_pay20, k0_pay62, k0_pay3]
  rfl

/-- Height of an anchor's box. -/
theorem ph (a : Fin 8400) : k0_pay81 (F := Ideal) x0 x1 x2 x3 x4 x5 (ix2 0 a) = hgt ((img x0 x1 x2 x3 x4 x5).pb a 1) ((img x0 x1 x2 x3 x4 x5).pb a 3) := by
  pointwise [k0_pay81, k0_pay25, k0_pay19, k0_pay21, k0_pay62, k0_pay3]
  rfl

/-- Width of a box. -/
theorem gw (m : Fin 32) : k0_pay78 (F := Ideal) x0 x1 x2 x3 x4 x5 (ix2 m 0) = wid ((img x0 x1 x2 x3 x4 x5).gt m 0) ((img x0 x1 x2 x3 x4 x5).gt m 2) := by
  pointwise [k0_pay78, k0_pay22, gt0, gt1, gt2, gt3]
  rfl

/-- Height of a box. -/
theorem gh (m : Fin 32) : k0_pay79 (F := Ideal) x0 x1 x2 x3 x4 x5 (ix2 m 0) = hgt ((img x0 x1 x2 x3 x4 x5).gt m 1) ((img x0 x1 x2 x3 x4 x5).gt m 3) := by
  pointwise [k0_pay79, k0_pay23, gt0, gt1, gt2, gt3]
  rfl

/-- The angle of an anchor's box. -/
theorem patan (a : Fin 8400) : k0_pay85 (F := Ideal) x0 x1 x2 x3 x4 x5 (ix2 0 a)
    = atan horner (Ideal.div (wid ((img x0 x1 x2 x3 x4 x5).pb a 0) ((img x0 x1 x2 x3 x4 x5).pb a 2)) (hgt ((img x0 x1 x2 x3 x4 x5).pb a 1) ((img x0 x1 x2 x3 x4 x5).pb a 3))) := by
  have f0 := pw x0 x1 x2 x3 x4 x5 a
  have f1 := ph x0 x1 x2 x3 x4 x5 a
  pointwise [k0_pay85, k0_pay38, k0_pay32, k0_pay33, k0_pay34, k0_pay35, k0_pay36, k0_pay37, f0, f1]
  rw [zero_minus]
  rfl

/-- The slope of a box. -/
theorem slope (m : Fin 32) : k0_pay86 (F := Ideal) x0 x1 x2 x3 x4 x5 (ix2 m 0) = (Ideal.div (wid ((img x0 x1 x2 x3 x4 x5).gt m 0) ((img x0 x1 x2 x3 x4 x5).gt m 2)) (hgt ((img x0 x1 x2 x3 x4 x5).gt m 1) ((img x0 x1 x2 x3 x4 x5).gt m 3))) := by
  have f0 := gw x0 x1 x2 x3 x4 x5 m
  have f1 := gh x0 x1 x2 x3 x4 x5 m
  pointwise [k0_pay86, k0_pay39, f0, f1]

/-- The slope of a box is beyond one. -/
theorem steep (m : Fin 32) : k0_pay87 (F := Ideal) x0 x1 x2 x3 x4 x5 (ix2 m 0) = BitVec.ofBool (decide (1 < max (Ideal.div (wid ((img x0 x1 x2 x3 x4 x5).gt m 0) ((img x0 x1 x2 x3 x4 x5).gt m 2)) (hgt ((img x0 x1 x2 x3 x4 x5).gt m 1) ((img x0 x1 x2 x3 x4 x5).gt m 3))) (-(Ideal.div (wid ((img x0 x1 x2 x3 x4 x5).gt m 0) ((img x0 x1 x2 x3 x4 x5).gt m 2)) (hgt ((img x0 x1 x2 x3 x4 x5).gt m 1) ((img x0 x1 x2 x3 x4 x5).gt m 3)))))) := by
  have f0 := gw x0 x1 x2 x3 x4 x5 m
  have f1 := gh x0 x1 x2 x3 x4 x5 m
  pointwise [k0_pay87, k0_pay41, k0_pay40, k0_pay39, f0, f1]
  rfl

/-- The folded slope of a box. -/
theorem folded (m : Fin 32) : k0_pay88 (F := Ideal) x0 x1 x2 x3 x4 x5 (ix2 m 0) = fold (Ideal.div (wid ((img x0 x1 x2 x3 x4 x5).gt m 0) ((img x0 x1 x2 x3 x4 x5).gt m 2)) (hgt ((img x0 x1 x2 x3 x4 x5).gt m 1) ((img x0 x1 x2 x3 x4 x5).gt m 3))) := by
  have f0 := gw x0 x1 x2 x3 x4 x5 m
  have f1 := gh x0 x1 x2 x3 x4 x5 m
  pointwise [k0_pay88, k0_pay42, k0_pay41, k0_pay40, k0_pay39, f0, f1]
  rfl

/-- Its square. -/
theorem folded2 (m : Fin 32) : k0_pay89 (F := Ideal) x0 x1 x2 x3 x4 x5 (ix2 m 0) = fold (Ideal.div (wid ((img x0 x1 x2 x3 x4 x5).gt m 0) ((img x0 x1 x2 x3 x4 x5).gt m 2)) (hgt ((img x0 x1 x2 x3 x4 x5).gt m 1) ((img x0 x1 x2 x3 x4 x5).gt m 3))) * fold (Ideal.div (wid ((img x0 x1 x2 x3 x4 x5).gt m 0) ((img x0 x1 x2 x3 x4 x5).gt m 2)) (hgt ((img x0 x1 x2 x3 x4 x5).gt m 1) ((img x0 x1 x2 x3 x4 x5).gt m 3))) := by
  have e := folded x0 x1 x2 x3 x4 x5 m
  rw [← e]
  pointwise [k0_pay89, k0_pay88, k0_pay43]

/-- The overlap of a pair, before it is known to be the reference's. -/
theorem ovlK (m : Fin 32) (a : Fin 8400) : k0_pay92 (F := Ideal) x0 x1 x2 x3 x4 x5 (ix2 m a)
    = if k0_pay73 (F := Ideal) x0 x1 x2 x3 x4 x5 (ix2 m a) = 1#1 then max (scoreK ((img x0 x1 x2 x3 x4 x5).gt m) ((img x0 x1 x2 x3 x4 x5).pb a)) 0 else 0 := by
  have h90 : k0_pay90 (F := Ideal) x0 x1 x2 x3 x4 x5 (ix2 m 0) = (((Ideal.ofBits .f32 0x3B3BD74A#32 * k0_pay89 (F := Ideal) x0 x1 x2 x3 x4 x5 (ix2 m 0)
      + Ideal.ofBits .f32 0xBC846E02#32) * k0_pay89 (F := Ideal) x0 x1 x2 x3 x4 x5 (ix2 m 0) + Ideal.ofBits .f32 0x3D2FC1FE#32) * k0_pay89 (F := Ideal) x0 x1 x2 x3 x4 x5 (ix2 m 0)
      + Ideal.ofBits .f32 0xBD9A3174#32) * k0_pay89 (F := Ideal) x0 x1 x2 x3 x4 x5 (ix2 m 0) := by
    pointwise [k0_pay90, k0_pay89, k0_pay44]
  pointwise [k0_pay92, k0_pay46, k0_pay45, iouV, diagV, distV, patan, slope, steep, folded, folded2, h90]
  rw [zero_minus]
  rfl

/-- The overlap of a pair. -/
theorem ovlV (h : (img x0 x1 x2 x3 x4 x5).Valid) (m : Fin 32) (a : Fin 8400) : k0_pay92 (F := Ideal) x0 x1 x2 x3 x4 x5 (ix2 m a) = ovl (img x0 x1 x2 x3 x4 x5) m a := by
  rw [ovlK]
  unfold ovl
  by_cases hp : On (img x0 x1 x2 x3 x4 x5) m a
  · rw [if_pos hp, if_pos ((on x0 x1 x2 x3 x4 x5 m a).mpr hp), (hp.score h).1]
  · rw [if_neg hp, if_neg fun q => hp ((on x0 x1 x2 x3 x4 x5 m a).mp q)]

/-- The numbers that mark a box's class. -/
theorem onehot (h : (img x0 x1 x2 x3 x4 x5).Valid) (m : Fin 32) (c : Fin 80) : k0_pay6 (F := Ideal) (View.ld x3 r0_3) (ix2 m c) = if c = cls (img x0 x1 x2 x3 x4 x5) m then (1 : EReal) else 0 := by
  have hl : (img x0 x1 x2 x3 x4 x5).lab m = BitVec.ofNat 32 (cls (img x0 x1 x2 x3 x4 x5) m).1 := by
    have := h.lab m
    unfold cls
    apply BitVec.eq_of_toNat_eq
    rw [BitVec.toNat_ofNat]
    dsimp only
    omega
  have hh : k0_pay6 (F := Ideal) (View.ld x3 r0_3) (ix2 m c)
      = FloatOps.sitofp FTy.f32 (BitVec.setWidth 32 (IntOp.cmpi .eq ((img x0 x1 x2 x3 x4 x5).lab m) (BitVec.ofNat 32 c.1))) := by
    pointwise [k0_pay6, img]
  rw [hh, hl, flag_pos (by norm_num)]
  simp only [eq_comm]

/-- An anchor's score for a box's class. -/
theorem scoreV (h : (img x0 x1 x2 x3 x4 x5).Valid) (m : Fin 32) (a : Fin 8400) :
    k0_pay7 (F := Ideal) (View.ld x0 r0_0) (View.ld x3 r0_3) (ix2 m a) = (img x0 x1 x2 x3 x4 x5).ps a (cls (img x0 x1 x2 x3 x4 x5) m) := by
  have o := onehot x0 x1 x2 x3 x4 x5 h m
  have hh : k0_pay7 (F := Ideal) (View.ld x0 r0_0) (View.ld x3 r0_3) (ix2 m a)
      = ∑ c, k0_pay6 (F := Ideal) (View.ld x3 r0_3) (ix2 m c) * (img x0 x1 x2 x3 x4 x5).ps a c := by
    pointwise [k0_pay7, k0_pay6, img]
  rw [hh]
  simp only [o]
  exact sum_pick _ _

/-- How well a pair fits. -/
theorem alV (h : (img x0 x1 x2 x3 x4 x5).Valid) (m : Fin 32) (a : Fin 8400) : k0_pay93 (F := Ideal) x0 x1 x2 x3 x4 x5 (ix2 m a) = al (img x0 x1 x2 x3 x4 x5) m a := by
  have hs := scoreV x0 x1 x2 x3 x4 x5 h m a
  have ho := ovlV x0 x1 x2 x3 x4 x5 h m a
  have hh : k0_pay93 (F := Ideal) x0 x1 x2 x3 x4 x5 (ix2 m a)
      = (if k0_pay73 (F := Ideal) x0 x1 x2 x3 x4 x5 (ix2 m a) = 1#1 then k0_pay7 (F := Ideal) (View.ld x0 r0_0) (View.ld x3 r0_3) (ix2 m a) else 0)
        * (k0_pay92 (F := Ideal) x0 x1 x2 x3 x4 x5 (ix2 m a) * k0_pay92 (F := Ideal) x0 x1 x2 x3 x4 x5 (ix2 m a)
          * (k0_pay92 (F := Ideal) x0 x1 x2 x3 x4 x5 (ix2 m a) * k0_pay92 (F := Ideal) x0 x1 x2 x3 x4 x5 (ix2 m a))
          * (k0_pay92 (F := Ideal) x0 x1 x2 x3 x4 x5 (ix2 m a) * k0_pay92 (F := Ideal) x0 x1 x2 x3 x4 x5 (ix2 m a))) := by
    rw [k0_pay93, k0_pay47, ← k0_pay92]
    generalize k0_pay7 (F := Ideal) (View.ld x0 r0_0) (View.ld x3 r0_3) = v15
    pointwise [k0_pay45]
    by_cases hc : k0_pay73 (F := Ideal) x0 x1 x2 x3 x4 x5 (ix2 m a) = 1#1
    · simp [hc, Scalar.select]
    · simp [hc, Scalar.select]
  rw [hh, hs, ho]
  unfold al
  by_cases hp : On (img x0 x1 x2 x3 x4 x5) m a
  · rw [if_pos hp, if_pos ((on x0 x1 x2 x3 x4 x5 m a).mpr hp)]
  · rw [if_neg hp, if_neg fun q => hp ((on x0 x1 x2 x3 x4 x5 m a).mp q)]

end Cert.Proof.Ker
end
-- ==== Proof.KRounds.lean ====
/- The kernel's thirteen rounds, each striking out the best anchor of every box. -/
module

public import proofs.«01_k».proof.Proof.KPoint

@[expose] public section

set_option maxRecDepth 16384
set_option pp.maxSteps 400

noncomputable section

namespace Cert.Proof.Ker

open Idealize.ShloMosaic Idealize.ShloMosaic.TcCoe Cert.KernelIdeal Cert.KernelIdeal.Gen
open Cert.Proof.Spec Cert.Proof.Scalar Cert.Proof.Arg Cert.Proof.Rank

attribute [local instance] Cert.KernelIdeal.Gen.facts

/-- The numbers of the anchors. -/
def number : IVec S32x8400 32 := iota .tc S32x8400 32 [1] iota_S32x8400_d1_w32

/-- Every box's greatest entry, along its row. -/
def rowMax (w : FVec Ideal S32x8400 .f32) : FVec Ideal S32x8400 .f32 :=
  broadcastTo S32x8400 (shapeCast S32x1 (multiReduction .maximumf [1] S32 w 0xFF800000#32 reduces_S32x8400_S32 (.inl rfl) rfl)
    shapeCasts_S32_S32x1) broadcasts_S32x1_S32x8400

/-- The numbers of the anchors with the greatest entry, a large number elsewhere. -/
def hits (w r : FVec Ideal S32x8400 .f32) : IVec S32x8400 32 :=
  select (cmpf .oeq w r) number (broadcast S32x8400 1073741824#32)

/-- Every box's smallest number, along its row. -/
def rowMin (h : IVec S32x8400 32) : IVec S32x8400 32 :=
  broadcastTo S32x8400 (shapeCast S32x1 (multiReductionI .minsi [1] S32 h 2147483647#32 reduces_S32x8400_S32 rfl)
    shapeCasts_S32_S32x1) broadcasts_S32x1_S32x8400

/-- The entry at a number becomes minus one. -/
def strike (w : FVec Ideal S32x8400 .f32) (k : IVec S32x8400 32) : FVec Ideal S32x8400 .f32 :=
  select (cmpi .eq number k) (broadcast S32x8400 (Scalar.ofBits .f32 0xBF800000#32)) w

/-- One round. -/
def round (w : FVec Ideal S32x8400 .f32) : FVec Ideal S32x8400 .f32 := strike w (rowMin (hits w (rowMax w)))

/-- A round strikes out the lowest position of a box's greatest entry. -/
theorem round_at (w : FVec Ideal S32x8400 .f32) (m : Fin 32) (b : Fin 8400) (h : First (fun a => w (ix2 m a)) b) (a : Fin 8400) :
    round w (ix2 m a) = if a = b then -1 else w (ix2 m a) := by
  have e := least (by norm_num) h
  have hk : rowMin (hits w (rowMax w)) (ix2 m a) = BitVec.ofNat 32 b.1 := by
    rw [← e]
    pointwise [rowMin, hits, rowMax, number]
  have hr : round w (ix2 m a) = if IntOp.cmpi .eq (BitVec.ofNat 32 a.1) (rowMin (hits w (rowMax w)) (ix2 m a)) = 1#1
      then Ideal.ofBits .f32 0xBF800000#32 else w (ix2 m a) := by
    generalize hq : rowMin (hits w (rowMax w)) = q
    rw [round, hq]
    pointwise [strike, number]
    rfl
  rw [hr, hk, lit_neg_one]
  have ha := a.2
  have hb := b.2
  have := ofNat_inj (show a.1 < 4294967296 by omega) (show b.1 < 4294967296 by omega)
  by_cases q : a = b
  · subst q; simp [IntOp.cmpi]
  · have q' : ¬ BitVec.ofNat 32 a.1 = BitVec.ofNat 32 b.1 := fun z => q (Fin.ext (this.mp z))
    have e : (BitVec.ofNat 32 a.1 == BitVec.ofNat 32 b.1) = false := beq_eq_false_iff_ne.mpr q'
    simp [IntOp.cmpi, q, e]

/-- Rounds strike out the best-ranked anchors of a row that is not negative. -/
theorem rounds_at (w : FVec Ideal S32x8400 .f32) (m : Fin 32) (hw : ∀ a, 0 ≤ w (ix2 m a)) (r : Nat) (hr : r ≤ 8400) :
    ∀ a, round^[r] w (ix2 m a) = struck (fun a => w (ix2 m a)) r a := by
  induction r with
  | zero => intro a; rw [struck_zero]; rfl
  | succ r ih =>
    have ih := ih (by omega)
    obtain ⟨b, hb⟩ := First.exists (struck (fun a => w (ix2 m a)) r) (by norm_num)
    intro a
    have e : (fun a => round^[r] w (ix2 m a)) = struck (fun a => w (ix2 m a)) r := funext ih
    rw [Function.iterate_succ_apply', round_at _ m b (by rw [e]; exact hb), ih,
      struck_succ hw (by omega) hb]

variable (x0 : Vec Ideal S1x8400x80 .f32) (x1 : Vec Ideal S1x4x8400 .f32) (x2 : Vec Ideal S2x8400 .f32)
  (x3 : Vec Ideal S1x32x1 .i32) (x4 : Vec Ideal S1x32x4 .f32) (x5 : Vec Ideal S1x32x1 .f32)

/-- Three rounds, and the fourth begun. -/
theorem three (w : FVec Ideal S32x8400 .f32) : k0_pay48 (F := Ideal) w number = round (round (round w)) := by
  unfold k0_pay48 round strike rowMin hits rowMax
  with_reducible rfl
theorem three_next (w : FVec Ideal S32x8400 .f32) : k0_pay49 (F := Ideal) w number = rowMin (hits (k0_pay48 (F := Ideal) w number) (rowMax (k0_pay48 (F := Ideal) w number))) := by
  unfold k0_pay49 rowMin hits rowMax
  with_reducible rfl
/-- Four more rounds, from the fourth begun. -/
theorem four (w : FVec Ideal S32x8400 .f32) : k0_pay50 (F := Ideal) number w (rowMin (hits w (rowMax w))) = round (round (round (round w))) := by
  unfold k0_pay50 round strike rowMin hits rowMax
  with_reducible rfl
theorem four_next (w : FVec Ideal S32x8400 .f32) (k : IVec S32x8400 32) :
    k0_pay51 (F := Ideal) number w k = hits (k0_pay50 (F := Ideal) number w k) (rowMax (k0_pay50 (F := Ideal) number w k)) := by
  unfold k0_pay51 hits rowMax
  with_reducible rfl
/-- Four more. -/
theorem eight (w : FVec Ideal S32x8400 .f32) : k0_pay52 (F := Ideal) number w (hits w (rowMax w)) = round (round (round (round w))) := by
  unfold k0_pay52 round strike rowMin hits rowMax
  with_reducible rfl
theorem eight_next (w : FVec Ideal S32x8400 .f32) (k : IVec S32x8400 32) :
    k0_pay53 (F := Ideal) number w k = rowMax (k0_pay52 (F := Ideal) number w k) := by
  unfold k0_pay53 rowMax
  with_reducible rfl

/-- The kernel's array after eleven rounds. -/
theorem eleven : k0_pay98 (F := Ideal) x0 x1 x2 x3 x4 x5 = round^[11] (k0_pay93 (F := Ideal) x0 x1 x2 x3 x4 x5) := by
  have h91 : k0_pay91 (F := Ideal) x0 x1 x2 x3 x4 x5 = number := by unfold k0_pay91 number; with_reducible rfl
  rw [k0_pay98, k0_pay97, k0_pay96, k0_pay95, k0_pay94, h91, three_next, three, four_next, four, eight]
  simp only [Function.iterate_succ_apply', Function.iterate_zero, id]

theorem eleven_next : k0_pay99 (F := Ideal) x0 x1 x2 x3 x4 x5 = rowMax (k0_pay98 (F := Ideal) x0 x1 x2 x3 x4 x5) := by
  have h91 : k0_pay91 (F := Ideal) x0 x1 x2 x3 x4 x5 = number := by unfold k0_pay91 number; with_reducible rfl
  rw [k0_pay99, k0_pay98, h91, eight_next]

end Cert.Proof.Ker
end
-- ==== Proof.KOut.lean ====
/- What the kernel stores for one image. -/
module

public import proofs.«01_k».proof.Proof.KRounds

@[expose] public section

set_option maxRecDepth 16384
set_option pp.maxSteps 1000

noncomputable section

namespace Cert.Proof.Ker

open Idealize.ShloMosaic Idealize.ShloMosaic.TcCoe Cert.KernelIdeal Cert.KernelIdeal.Gen
open Cert.Proof.Spec Cert.Proof.Scalar Cert.Proof.Arg Cert.Proof.Rank

attribute [local instance] Cert.KernelIdeal.Gen.facts

/-- The marks, after the last two rounds. -/
theorem marks (v9 : FVec Ideal S32x1 .f32) (v46 : IVec S32x8400 1) (w : FVec Ideal S32x8400 .f32) :
    k0_pay54 (F := Ideal) v9 v46 number w (rowMax w)
      = mulf (mulf (select (cmpf .olt (round (round w)) (broadcast S32x8400 (Scalar.ofBits .f32 0x00000000#32)))
          (broadcast S32x8400 (Scalar.ofBits .f32 0x3F800000#32)) (broadcast S32x8400 (Scalar.ofBits .f32 0x00000000#32)))
          (sitofp .f32 (extui 32 v46 natLt_1_32))) (broadcastTo S32x8400 v9 broadcasts_S32x1_S32x8400) := by
  unfold k0_pay54 round strike rowMin hits rowMax
  with_reducible rfl

/-- An entry is struck out exactly when it is below zero. -/
theorem struck_neg {n : Nat} {f : Fin n → EReal} (hf : ∀ a, 0 ≤ f a) (r : Nat) (a : Fin n) : struck f r a < 0 ↔ rank f a < r := by
  unfold struck
  by_cases h : rank f a < r
  · rw [if_pos h]
    refine ⟨fun _ => h, fun _ => ?_⟩
    have : (-1 : EReal) = ((-1 : ℝ) : EReal) := by simp
    rw [this]
    exact_mod_cast (by norm_num : (-1 : ℝ) < 0)
  · rw [if_neg h]
    exact ⟨fun q => absurd q (not_lt.mpr (hf a)), fun q => absurd q h⟩

variable (x0 : Vec Ideal S1x8400x80 .f32) (x1 : Vec Ideal S1x4x8400 .f32) (x2 : Vec Ideal S2x8400 .f32)
  (x3 : Vec Ideal S1x32x1 .i32) (x4 : Vec Ideal S1x32x4 .f32) (x5 : Vec Ideal S1x32x1 .f32)

/-- The mark of a pair. -/
theorem mpV (h : (img x0 x1 x2 x3 x4 x5).Valid) (m : Fin 32) (a : Fin 8400) :
    k0_pay101 (F := Ideal) x0 x1 x2 x3 x4 x5 (ix2 m a) = mp (img x0 x1 x2 x3 x4 x5) m a := by
  have ha := fun a => alV x0 x1 x2 x3 x4 x5 h m a
  have hm := mg x0 x1 x2 x3 x4 x5 m
  have hi := inside x0 x1 x2 x3 x4 x5 m a
  have h91 : k0_pay91 (F := Ideal) x0 x1 x2 x3 x4 x5 = number := by unfold k0_pay91 number; with_reducible rfl
  have hn : ∀ a, 0 ≤ k0_pay93 (F := Ideal) x0 x1 x2 x3 x4 x5 (ix2 m a) := fun a => by rw [ha]; exact al_nonneg h m a
  have hr := rounds_at (k0_pay93 (F := Ideal) x0 x1 x2 x3 x4 x5) m hn 13 (by norm_num) a
  have hf : (fun a => k0_pay93 (F := Ideal) x0 x1 x2 x3 x4 x5 (ix2 m a)) = al (img x0 x1 x2 x3 x4 x5) m := funext ha
  rw [hf] at hr
  have e13 : round (round (k0_pay98 (F := Ideal) x0 x1 x2 x3 x4 x5)) = round^[13] (k0_pay93 (F := Ideal) x0 x1 x2 x3 x4 x5) := by
    rw [eleven]
    simp only [Function.iterate_succ_apply', Function.iterate_zero, id]
  rw [k0_pay101, eleven_next, h91, marks, e13]
  generalize round^[13] (k0_pay93 (F := Ideal) x0 x1 x2 x3 x4 x5) = u at hr ⊢
  have e : (mulf (mulf (select (cmpf .olt u (broadcast S32x8400 (Scalar.ofBits .f32 0x00000000#32)))
          (broadcast S32x8400 (Scalar.ofBits .f32 0x3F800000#32)) (broadcast S32x8400 (Scalar.ofBits .f32 0x00000000#32)))
          (sitofp .f32 (extui 32 (k0_pay72 (F := Ideal) x0 x1 x2 x3 x4 x5) natLt_1_32)))
          (broadcastTo S32x8400 (k0_pay63 (F := Ideal) x0 x1 x2 x3 x4 x5) broadcasts_S32x1_S32x8400) : FVec Ideal S32x8400 .f32) (ix2 m a)
      = (if u (ix2 m a) < 0 then 1 else 0) * FloatOps.sitofp FTy.f32 (BitVec.setWidth 32 (k0_pay72 (F := Ideal) x0 x1 x2 x3 x4 x5 (ix2 m a)))
          * (img x0 x1 x2 x3 x4 x5).mg m := by
    pointwise [hm]
  rw [e, flag, hr]
  unfold mp
  congr 2
  · exact if_congr (struck_neg (al_nonneg h m) 13 a) rfl rfl
  · by_cases hh : Inside (img x0 x1 x2 x3 x4 x5) m a
    · rw [if_pos hh, if_pos (hi.mpr hh)]
    · rw [if_neg hh, if_neg fun q => hh (hi.mp q)]

/-- An anchor's number of marks. -/
theorem countV (h : (img x0 x1 x2 x3 x4 x5).Valid) (a : Fin 8400) :
    k0_pay102 (F := Ideal) x0 x1 x2 x3 x4 x5 (ix2 0 a) = ∑ m, mp (img x0 x1 x2 x3 x4 x5) m a := by
  have e : k0_pay102 (F := Ideal) x0 x1 x2 x3 x4 x5 (ix2 0 a) = ∑ m, k0_pay101 (F := Ideal) x0 x1 x2 x3 x4 x5 (ix2 m a) := by
    rw [k0_pay102, k0_pay55, ← k0_pay101]
    pointwise []
  rw [e]
  exact Finset.sum_congr rfl fun m _ => mpV x0 x1 x2 x3 x4 x5 h m a

/-- The box an anchor overlaps most. -/
theorem maxV (h : (img x0 x1 x2 x3 x4 x5).Valid) (m : Fin 32) (a : Fin 8400) :
    k0_pay103 (F := Ideal) x0 x1 x2 x3 x4 x5 (ix2 m a) = if m = first (fun m => ovl (img x0 x1 x2 x3 x4 x5) m a) then 1 else 0 := by
  have ho := fun m => ovlV x0 x1 x2 x3 x4 x5 h m a
  have e := least (by norm_num) (first_spec fun m => ovl (img x0 x1 x2 x3 x4 x5) m a)
  rw [← flag_pos (by norm_num), ← e]
  pointwise [k0_pay103, k0_pay56, ho]

/-- The marks with every anchor given to one box at most. -/
theorem mp2V (h : (img x0 x1 x2 x3 x4 x5).Valid) (m : Fin 32) (a : Fin 8400) :
    k0_pay57 (F := Ideal) (k0_pay101 x0 x1 x2 x3 x4 x5) (k0_pay102 x0 x1 x2 x3 x4 x5) (k0_pay103 x0 x1 x2 x3 x4 x5) (ix2 m a)
      = mp2 (img x0 x1 x2 x3 x4 x5) m a := by
  have h1 := mpV x0 x1 x2 x3 x4 x5 h m a
  have h2 := countV x0 x1 x2 x3 x4 x5 h a
  have h3 := maxV x0 x1 x2 x3 x4 x5 h m a
  pointwise [k0_pay57, h1, h2, h3]
  rfl

/-- An anchor's number of boxes. -/
theorem fgV (h : (img x0 x1 x2 x3 x4 x5).Valid) (a : Fin 8400) :
    k0_pay58 (F := Ideal) (k0_pay101 x0 x1 x2 x3 x4 x5) (k0_pay102 x0 x1 x2 x3 x4 x5) (k0_pay103 x0 x1 x2 x3 x4 x5) (ix2 0 a)
      = fg (img x0 x1 x2 x3 x4 x5) a := by
  have hm := fun m => mp2V x0 x1 x2 x3 x4 x5 h m a
  rw [k0_pay58]
  generalize k0_pay57 (F := Ideal) (k0_pay101 x0 x1 x2 x3 x4 x5) (k0_pay102 x0 x1 x2 x3 x4 x5) (k0_pay103 x0 x1 x2 x3 x4 x5) = u at hm ⊢
  pointwise [hm]
  rfl

/-- The box an anchor is given, as numbers. -/
theorem tgV (h : (img x0 x1 x2 x3 x4 x5).Valid) (m : Fin 32) (a : Fin 8400) :
    k0_pay59 (F := Ideal) (k0_pay101 x0 x1 x2 x3 x4 x5) (k0_pay102 x0 x1 x2 x3 x4 x5) (k0_pay100 (F := Ideal) x0 x1 x2 x3 x4 x5) (k0_pay103 x0 x1 x2 x3 x4 x5) (ix2 m a)
      = if m = tg (img x0 x1 x2 x3 x4 x5) a then 1 else 0 := by
  have hm := fun m => mp2V x0 x1 x2 x3 x4 x5 h m a
  have e := least (by norm_num) (first_spec fun m => mp2 (img x0 x1 x2 x3 x4 x5) m a)
  rw [← flag_pos (by norm_num)]
  unfold tg
  rw [← e, k0_pay59]
  generalize k0_pay57 (F := Ideal) (k0_pay101 x0 x1 x2 x3 x4 x5) (k0_pay102 x0 x1 x2 x3 x4 x5) (k0_pay103 x0 x1 x2 x3 x4 x5) = u at hm ⊢
  pointwise [k0_pay100, hm]

/-- The boxes the kernel stores. -/
theorem out_tb (h : (img x0 x1 x2 x3 x4 x5).Valid) (a : Fin 8400) (k : Fin 4) :
    k0_pay60 (F := Ideal) (k0_pay4 (View.ld x4 r0_2)) (k0_pay101 x0 x1 x2 x3 x4 x5) (k0_pay102 x0 x1 x2 x3 x4 x5) (k0_pay100 (F := Ideal) x0 x1 x2 x3 x4 x5) (k0_pay103 x0 x1 x2 x3 x4 x5) (ix3 0 a k)
      = (img x0 x1 x2 x3 x4 x5).gt (tg (img x0 x1 x2 x3 x4 x5) a) k := by
  have ht := fun m => tgV x0 x1 x2 x3 x4 x5 h m a
  have hg := fun m => gtb x0 x1 x2 x3 x4 x5 m k
  rw [k0_pay60]
  generalize k0_pay59 (F := Ideal) (k0_pay101 x0 x1 x2 x3 x4 x5) (k0_pay102 x0 x1 x2 x3 x4 x5) (k0_pay100 (F := Ideal) x0 x1 x2 x3 x4 x5) (k0_pay103 x0 x1 x2 x3 x4 x5) = u at ht ⊢
  generalize k0_pay4 (F := Ideal) (View.ld x4 r0_2) = v at hg ⊢
  pointwise [ht, hg]
  exact sum_pick _ _

/-- The weight of an anchor, where it has a box. -/
theorem coeffV (h : (img x0 x1 x2 x3 x4 x5).Valid) (m : Fin 32) (a : Fin 8400) :
    k0_pay61 (F := Ideal) (k0_pay92 x0 x1 x2 x3 x4 x5) (k0_pay93 x0 x1 x2 x3 x4 x5) (k0_pay101 x0 x1 x2 x3 x4 x5) (k0_pay102 x0 x1 x2 x3 x4 x5) (k0_pay100 (F := Ideal) x0 x1 x2 x3 x4 x5) (k0_pay103 x0 x1 x2 x3 x4 x5) (ix2 m a)
      = (if m = tg (img x0 x1 x2 x3 x4 x5) a then 1 else 0) * (if 0 < fg (img x0 x1 x2 x3 x4 x5) a then norm (img x0 x1 x2 x3 x4 x5) a else 0) := by
  have ht := fun m => tgV x0 x1 x2 x3 x4 x5 h m a
  have hm := fun m a => mp2V x0 x1 x2 x3 x4 x5 h m a
  have ho := fun m a => ovlV x0 x1 x2 x3 x4 x5 h m a
  have hl := fun m a => alV x0 x1 x2 x3 x4 x5 h m a
  have hf := fun a => fgV x0 x1 x2 x3 x4 x5 h a
  rw [k0_pay61]
  generalize k0_pay58 (F := Ideal) (k0_pay101 x0 x1 x2 x3 x4 x5) (k0_pay102 x0 x1 x2 x3 x4 x5) (k0_pay103 x0 x1 x2 x3 x4 x5) = v58 at hf ⊢
  generalize k0_pay59 (F := Ideal) (k0_pay101 x0 x1 x2 x3 x4 x5) (k0_pay102 x0 x1 x2 x3 x4 x5) (k0_pay100 (F := Ideal) x0 x1 x2 x3 x4 x5) (k0_pay103 x0 x1 x2 x3 x4 x5) = v59 at ht ⊢
  generalize k0_pay57 (F := Ideal) (k0_pay101 x0 x1 x2 x3 x4 x5) (k0_pay102 x0 x1 x2 x3 x4 x5) (k0_pay103 x0 x1 x2 x3 x4 x5) = v57 at hm ⊢
  generalize k0_pay92 (F := Ideal) x0 x1 x2 x3 x4 x5 = v92 at ho ⊢
  generalize k0_pay93 (F := Ideal) x0 x1 x2 x3 x4 x5 = v93 at hl ⊢
  pointwise [ht, hm, ho, hl, hf]
  rw [lit_bot]
  rfl

/-- The scores the kernel stores. -/
theorem out_ts (h : (img x0 x1 x2 x3 x4 x5).Valid) (a : Fin 8400) (c : Fin 80) :
    k0_pay1 (F := Ideal) (k0_pay6 (View.ld x3 r0_3)) (k0_pay61 (F := Ideal) (k0_pay92 x0 x1 x2 x3 x4 x5) (k0_pay93 x0 x1 x2 x3 x4 x5) (k0_pay101 x0 x1 x2 x3 x4 x5) (k0_pay102 x0 x1 x2 x3 x4 x5) (k0_pay100 (F := Ideal) x0 x1 x2 x3 x4 x5) (k0_pay103 x0 x1 x2 x3 x4 x5))
        (constant S8400x80 .f32 0x00000000#32) (ix3 0 a c)
      = ts (img x0 x1 x2 x3 x4 x5) a c := by
  have hc := fun m => coeffV x0 x1 x2 x3 x4 x5 h m a
  have hl := fun m => onehot x0 x1 x2 x3 x4 x5 h m c
  generalize k0_pay61 (F := Ideal) (k0_pay92 x0 x1 x2 x3 x4 x5) (k0_pay93 x0 x1 x2 x3 x4 x5) (k0_pay101 x0 x1 x2 x3 x4 x5) (k0_pay102 x0 x1 x2 x3 x4 x5) (k0_pay100 (F := Ideal) x0 x1 x2 x3 x4 x5) (k0_pay103 x0 x1 x2 x3 x4 x5) = u at hc ⊢
  generalize k0_pay6 (F := Ideal) (View.ld x3 r0_3) = v at hl ⊢
  pointwise [k0_pay1, hc, hl]
  simp only [mul_assoc]
  rw [sum_pick]
  unfold ts
  by_cases h0 : 0 < fg (img x0 x1 x2 x3 x4 x5) a <;> by_cases h1 : cls (img x0 x1 x2 x3 x4 x5) (tg (img x0 x1 x2 x3 x4 x5) a) = c
  · simp [h0, h1]
  · simp [h0, h1, Ne.symm h1]
  · simp [h0, h1]
  · simp [h0, h1]

/-- The counts the kernel stores. -/
theorem out_fg (h : (img x0 x1 x2 x3 x4 x5).Valid) (a : Fin 8400) :
    k0_pay2 (F := Ideal) (k0_pay58 (k0_pay101 x0 x1 x2 x3 x4 x5) (k0_pay102 x0 x1 x2 x3 x4 x5) (k0_pay103 x0 x1 x2 x3 x4 x5)) (ix3 0 0 a)
      = fg (img x0 x1 x2 x3 x4 x5) a := by
  have hf := fgV x0 x1 x2 x3 x4 x5 h a
  pointwise [k0_pay2, hf]

end Cert.Proof.Ker
end
-- ==== Proof.KRun.lean ====
/- The run of the kernel, read: its three results, image by image. -/
module

public import proofs.«01_k».proof.Proof.KOut
public import Idealize.ShloMosaic.Lib.Pipeline.ValueKit
public import Idealize.ShloMosaic.Lib.Claim

@[expose] public section

set_option maxRecDepth 16384
set_option pp.maxSteps 600

noncomputable section

namespace Cert.Proof.Ker

open Idealize.ShloMosaic Idealize.ShloMosaic.TcCoe Idealize.SL.Sem Cert.KernelIdeal Cert.KernelIdeal.Gen
open Idealize.ShloMosaic.Pipeline (Dat)
open Cert.Proof.Spec Cert.Proof.Scalar Cert.Proof.Arg Cert.Proof.Rank

attribute [local instance] Cert.KernelIdeal.Gen.facts

variable (m : (ℓ : Loc nD τ sig) → Buf (Elt Ideal) ℓ)

/-- The arguments with their types. -/
def a0 (c : Dev nD) : FVec Ideal S16x8400x80 .f32 := m ((c : Thread nD τ).loc main_arg0)
def a1 (c : Dev nD) : FVec Ideal S16x8400x4 .f32 := m ((c : Thread nD τ).loc main_arg1)
def a2 (c : Dev nD) : FVec Ideal S8400x2 .f32 := m ((c : Thread nD τ).loc main_arg2)
def a3 (c : Dev nD) : IVec S16x32x1 32 := m ((c : Thread nD τ).loc main_arg3)
def a4 (c : Dev nD) : FVec Ideal S16x32x4 .f32 := m ((c : Thread nD τ).loc main_arg4)
def a5 (c : Dev nD) : FVec Ideal S16x32x1 .f32 := m ((c : Thread nD τ).loc main_arg5)

/-- One image of the arguments. -/
def image (c : Dev nD) (b : Fin 16) : Image where
  ps a k := a0 m c (ix3 b a k)
  pb a k := a1 m c (ix3 b a k)
  an a k := a2 m c (ix2 a k)
  lab j := a3 m c (ix3 b j 0)
  gt j k := a4 m c (ix3 b j k)
  mg j := a5 m c (ix3 b j 0)

/-- Which block of its array a window shows at a point. -/
theorem idx : ∀ t : Fin cfg0.N, win0_0.index t = ![t.val, 0, 0] ∧ win0_1.index t = ![t.val, 0, 0] ∧ win0_2.index t = ![0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0] :=
  (by decide +kernel : ∀ t : Fin grid0.N, _)

theorem small (t : Fin cfg0.N) : t.val < 16 := by
  have h := t.2
  have e : cfg0.N = 16 := N_0
  omega

/-- A point's scores. -/
theorem blk0 (c : Dev nD) (t : Fin cfg0.N) (a : Fin 8400) (k : Fin 80) : iblk m c 0 t (ix3 0 a k) = a0 m c (ix3 ⟨t.val, small t⟩ a k) := by
  unfold a0
  blk_ext [iblk, V, idx t]

/-- The predicted boxes, turned by the host. -/
theorem turned1 (c : Dev nD) : (V m c main_call0_v0 : FVec Ideal S16x4x8400 .f32) = transpose S16x4x8400 [0, 2, 1] (a1 m c) transposes_S16x8400x4_S16x4x8400_0_2_1 := by
  unfold a1
  show StableHlo.after hostOps0 _ (Proc.devRef .tc main_call0_v0) = _
  after_results
  rfl

/-- The anchors' points, turned by the host. -/
theorem turned2 (c : Dev nD) : (V m c main_call0_v1 : FVec Ideal S2x8400 .f32) = transpose S2x8400 [1, 0] (a2 m c) transposes_S8400x2_S2x8400_1_0 := by
  unfold a2
  show StableHlo.after hostOps0 _ (Proc.devRef .tc main_call0_v1) = _
  after_results
  rfl

/-- A point's predicted boxes. -/
theorem blk1 (c : Dev nD) (t : Fin cfg0.N) (a : Fin 8400) (k : Fin 4) : iblk m c 1 t (ix3 0 k a) = a1 m c (ix3 ⟨t.val, small t⟩ a k) := by
  have e : iblk m c 1 t (ix3 0 k a) = (V m c main_call0_v0 : FVec Ideal S16x4x8400 .f32) (ix3 ⟨t.val, small t⟩ k a) := by blk_ext [iblk, idx t]
  rw [e, turned1]
  generalize a1 m c = x
  pointwise []

/-- A point's anchors. -/
theorem blk2 (c : Dev nD) (t : Fin cfg0.N) (a : Fin 8400) (k : Fin 2) : iblk m c 2 t (ix2 k a) = a2 m c (ix2 a k) := by
  have e : iblk m c 2 t (ix2 k a) = (V m c main_call0_v1 : FVec Ideal S2x8400 .f32) (ix2 k a) := by blk_ext [iblk, idx t]
  rw [e, turned2]
  generalize a2 m c = x
  pointwise []

/-- A point's labels. -/
theorem blk3 (c : Dev nD) (t : Fin cfg0.N) (j : Fin 32) : iblk m c 3 t (ix3 0 j 0) = a3 m c (ix3 ⟨t.val, small t⟩ j 0) := by
  unfold a3
  blk_ext [iblk, V, idx t]

/-- A point's ground-truth boxes. -/
theorem blk4 (c : Dev nD) (t : Fin cfg0.N) (j : Fin 32) (k : Fin 4) : iblk m c 4 t (ix3 0 j k) = a4 m c (ix3 ⟨t.val, small t⟩ j k) := by
  unfold a4
  blk_ext [iblk, V, idx t]

/-- A point's marks. -/
theorem blk5 (c : Dev nD) (t : Fin cfg0.N) (j : Fin 32) : iblk m c 5 t (ix3 0 j 0) = a5 m c (ix3 ⟨t.val, small t⟩ j 0) := by
  unfold a5
  blk_ext [iblk, V, idx t]

/-- The image a point works on. -/
theorem point (c : Dev nD) (t : Fin cfg0.N) :
    img (iblk m c 0 t) (iblk m c 1 t) (iblk m c 2 t) (iblk m c 3 t) (iblk m c 4 t) (iblk m c 5 t) = image m c ⟨t.val, small t⟩ := by
  unfold img image
  simp only [blk0, blk1, blk2, blk3, blk4, blk5]

/-- What the results hold. -/
def boxes (c : Dev nD) : FVec Ideal S16x8400x4 .f32 := fun i => (image m c (i 0)).gt (tg (image m c (i 0)) (i 1)) (i 2)
def scores (c : Dev nD) : FVec Ideal S16x8400x80 .f32 := fun i => ts (image m c (i 0)) (i 1) (i 2)
def counts (c : Dev nD) : FVec Ideal S16x1x8400 .f32 := fun i => fg (image m c (i 0)) (i 2)
def mask (c : Dev nD) : IVec S16x8400 1 := fun i => BitVec.ofBool (@decide (fg (image m c (i 0)) (i 1) ≠ 0) (Classical.dec _))

variable (hI : ∀ c b, (image m c b).Valid)
include hI

/-- The boxes after the run. -/
theorem final6 (c : Dev nD) : (dats m 0 c).arrAt 6 (cfgs 0).N = boxes m c := by
  refine (dats m 0 c).arrAt_eq_of_covers 6 _ (by decide +kernel) fun t _ y => ?_
  blk_simp
  rw [after0_6]; frame_out
  obtain ⟨b, a, k, rfl⟩ : ∃ (b : Fin 1) (a : Fin 8400) (k : Fin 4), y = ix3 b a k := ⟨y 0, y 1, y 2, by blk_ext⟩
  obtain rfl : b = 0 := Subsingleton.elim _ _
  have e := out_tb (iblk m c 0 t) (iblk m c 1 t) (iblk m c 2 t) (iblk m c 3 t) (iblk m c 4 t) (iblk m c 5 t) (by rw [point]; exact hI c _) a k
  rw [View.ld_unit_lit _ _ (by decide), point] at e
  refine e.trans ?_
  show boxes m c (ix3 ⟨t.val, small t⟩ a k) = _
  exact congrArg (boxes m c) (by blk_ext [idx t])

/-- The scores after the run. -/
theorem final7 (c : Dev nD) : (dats m 0 c).arrAt 7 (cfgs 0).N = scores m c := by
  refine (dats m 0 c).arrAt_eq_of_covers 7 _ (by decide +kernel) fun t _ y => ?_
  blk_simp
  rw [after0_7]; frame_out
  obtain ⟨b, a, k, rfl⟩ : ∃ (b : Fin 1) (a : Fin 8400) (k : Fin 80), y = ix3 b a k := ⟨y 0, y 1, y 2, by blk_ext⟩
  obtain rfl : b = 0 := Subsingleton.elim _ _
  have e := out_ts (iblk m c 0 t) (iblk m c 1 t) (iblk m c 2 t) (iblk m c 3 t) (iblk m c 4 t) (iblk m c 5 t) (by rw [point]; exact hI c _) a k
  rw [View.ld_unit_lit _ _ (by decide), point] at e
  refine e.trans ?_
  show scores m c (ix3 ⟨t.val, small t⟩ a k) = _
  exact congrArg (scores m c) (by blk_ext [idx t])

/-- The counts after the run. -/
theorem final8 (c : Dev nD) : (dats m 0 c).arrAt 8 (cfgs 0).N = counts m c := by
  refine (dats m 0 c).arrAt_eq_of_covers 8 _ (by decide +kernel) fun t _ y => ?_
  blk_simp
  rw [after0_8]; frame_out
  obtain ⟨b, b', a, rfl⟩ : ∃ (b b' : Fin 1) (a : Fin 8400), y = ix3 b b' a := ⟨y 0, y 1, y 2, by blk_ext⟩
  obtain rfl : b = 0 := Subsingleton.elim _ _
  obtain rfl : b' = 0 := Subsingleton.elim _ _
  have e := out_fg (iblk m c 0 t) (iblk m c 1 t) (iblk m c 2 t) (iblk m c 3 t) (iblk m c 4 t) (iblk m c 5 t) (by rw [point]; exact hI c _) a
  rw [point] at e
  refine e.trans ?_
  show counts m c (ix3 ⟨t.val, small t⟩ 0 a) = _
  exact congrArg (counts m c) (by blk_ext [idx t])

omit hI in
/-- The counts compared with zero. -/
theorem masked (c : Dev nD) : (cmpf .une (shapeCast S16x8400 (counts m c) shapeCasts_S16x1x8400_S16x8400)
    (broadcastInDim S16x8400 ![] bcast_S_S16x8400 (constant (F := Ideal) S_ .f32 0#32)) : IVec S16x8400 1) = mask m c := by
  funext i
  obtain ⟨b, a, rfl⟩ : ∃ (b : Fin 16) (a : Fin 8400), i = ix2 b a := ⟨i 0, i 1, by blk_ext⟩
  have e : ∀ b a, counts m c (ix3 b 0 a) = fg (image m c b) a := fun _ _ => rfl
  show _ = BitVec.ofBool (@decide (fg (image m c b) a ≠ 0) (Classical.dec _))
  generalize counts m c = x at e ⊢
  pointwise [e]
  congr

/-- The mask the host makes of the counts. -/
theorem tail (c : Dev nD) : Pipeline.afterTail₀ cfgs (dats m) 0 (V0 m) [hostOps1] c main_v0_2 = mask m c := by
  have h := final8 m hI c
  have w : (Pipeline.withArrays (cfgs 0).spec c (V0 m c) (fun w => (dats m 0 c).arrAt w (cfgs 0).N) (Proc.devRef .tc main_call0_v2_2) : FVec Ideal S16x1x8400 .f32)
      = counts m c := (Pipeline.withArrays_arr (cfgs 0).spec launch0.win.arr_inj c (V0 m c) _ 8).trans h
  unfold Pipeline.afterTail₀
  show StableHlo.after hostOps1 _ (Proc.devRef .tc main_v0_2) = _
  after_region_results
  refine Eq.trans ?_ (masked m c)
  rw [← w]
  rfl

variable (ρ : Dev nD → PrngReg)

/-- The kernel's run: the three results, and the arguments as they were. -/
theorem run : θ_run (defs (F := Ideal)) (onTc (τ := τ) (main (F := Ideal))) ⟨m, fun _ => 0, ρ⟩ fun r => ∀ c : Dev nD,
      r.2.mem ((c.tc : Thread nD τ).loc main_v0_0) = boxes m c
      ∧ r.2.mem ((c.tc : Thread nD τ).loc main_v0_1) = scores m c
      ∧ r.2.mem ((c.tc : Thread nD τ).loc main_v0_2) = mask m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 m hI c), ((h c).1 7).trans (final7 m hI c),
      ((h c).2 main_v0_2 (Pipeline.mem_restRefs_of main_v0_2 (by decide) (by decide))).trans (tail m hI c),
      ((h c).1 0).trans (((dats m 0 c).arrAt_in 0 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans (V_main_arg3 m c)),
      ((h c).1 4).trans (((dats m 0 c).arrAt_in 4 rfl _).trans (V_main_arg4 m c)),
      ((h c).1 5).trans (((dats m 0 c).arrAt_in 5 rfl _).trans (V_main_arg5 m c))⟩) (run_main m ρ)

end Cert.Proof.Ker
end
-- ==== Proof.Line.lean ====
/- A straight line of host operations whose results are numbered in the order they are written. The contents it
   ends at satisfy the equation of every one of its operations: no later operation touches what an earlier one
   read or wrote. -/
module

public import Idealize.ShloMosaic.Lib.Claim

@[expose] public section

noncomputable section

namespace Cert.Proof.Line

open Idealize.ShloMosaic Idealize.SL.Sem Idealize.ShloMosaic.StableHlo

variable {nD : Nat} {τ : Topo} {sig : RefSig} {Val : EltTy → Type} {Λ : Labels}

/-- The operation writes the buffer numbered `n` alone, touches none numbered above it, and done twice is done once. -/
structure Good (n : Nat) (op : HloOp τ sig Val) : Prop where
  writes : ∃ y : Ref sig .tc, y.idx.1 = n ∧ op.writes = {Proc.devRef .tc y}
  bufs : ∀ b ∈ op.bufs, ∃ r : Ref sig .tc, b = Proc.devRef .tc r ∧ r.idx.1 ≤ n
  twice : ∀ V, op.result (op.result V) = op.result V
  fresh : op.fresh = ∅

/-- The operations write the buffers numbered `n`, `n + 1`, … in order. -/
inductive Ordered : Nat → List (HloOp τ sig Val) → Prop
  | nil (n : Nat) : Ordered n []
  | cons {n : Nat} {op : HloOp τ sig Val} {ops : List (HloOp τ sig Val)} : Good n op → Ordered (n + 1) ops → Ordered n (op :: ops)

theorem Ordered.append {l₂ : List (HloOp τ sig Val)} :
    ∀ (l₁ : List (HloOp τ sig Val)) {n : Nat}, Ordered n l₁ → Ordered (n + l₁.length) l₂ → Ordered n (l₁ ++ l₂)
  | [], n, _, h => by simpa using h
  | op :: l, n, .cons g h₁, h₂ => .cons g (Ordered.append l h₁ (by simpa [Nat.add_assoc, Nat.add_comm 1] using h₂))

/-- A line numbered from `n` leaves the buffers numbered below `n` alone. -/
theorem Ordered.keep (r : Ref sig .tc) :
    ∀ (ops : List (HloOp τ sig Val)) {n : Nat} (V : Valuation τ sig Val), Ordered n ops → r.idx.1 < n →
      after ops V (Proc.devRef .tc r) = V (Proc.devRef .tc r)
  | [], _, _, _, _ => rfl
  | op :: ops, n, V, .cons g h, hr => by
    obtain ⟨y, hy, hw⟩ := g.writes
    rw [after_cons, Ordered.keep r ops _ h (by omega), result_of_writes_ne op V y r hw]
    rintro rfl; omega

/-- The final contents satisfy every operation's equation. -/
theorem Ordered.settled :
    ∀ (ops : List (HloOp τ sig Val)) {n : Nat} (V : Valuation τ sig Val), Ordered n ops →
      ∀ op ∈ ops, op.result (after ops V) = after ops V
  | [], _, _, _, _, h => nomatch h
  | op :: ops, n, V, .cons g h, o, ho => by
    rcases List.mem_cons.mp ho with rfl | ho
    · rw [after_cons]
      have key : ∀ b ∈ o.bufs, after ops (o.result V) b = o.result V b := by
        intro b hb
        obtain ⟨r, rfl, hr⟩ := g.bufs b hb
        exact Ordered.keep r ops _ h (by omega)
      funext b
      by_cases hb : b ∈ o.bufs
      · rw [o.result_congr key b hb, g.twice, key b hb]
      · exact o.result_of_not_mem _ fun hw => hb (o.writes_sub hw)
    · rw [after_cons]; exact Ordered.settled ops _ h o ho

theorem Ordered.fresh : ∀ (ops : List (HloOp τ sig Val)) {n : Nat}, Ordered n ops → ∀ op ∈ ops, op.fresh = ∅
  | op :: ops, n, .cons g h, o, ho => by
    rcases List.mem_cons.mp ho with rfl | ho
    · exact g.fresh
    · exact Ordered.fresh ops h o ho

theorem Ordered.bufs : ∀ (ops : List (HloOp τ sig Val)) {n : Nat}, Ordered n ops → ∀ op ∈ ops, op.bufs ⊆ tcRefs τ sig
  | op :: ops, n, .cons g h, o, ho => by
    rcases List.mem_cons.mp ho with rfl | ho
    · intro b hb
      obtain ⟨r, rfl, -⟩ := g.bufs b hb
      exact devRef_mem_tcRefs r
    · exact Ordered.bufs ops h o ho

variable {x a b c e y : Ref sig .tc} {n : Nat}

/-- An operation whose value at its result is a function that does not read the result is done once. -/
theorem twice_of (op : HloOp τ sig Val) (y : Ref sig .tc) (hw : op.writes = {Proc.devRef .tc y})
    (h : ∀ V V' : Valuation τ sig Val, (∀ r : Ref sig .tc, r ≠ y → V (Proc.devRef .tc r) = V' (Proc.devRef .tc r)) →
      op.result V (Proc.devRef .tc y) = op.result V' (Proc.devRef .tc y)) (V : Valuation τ sig Val) :
    op.result (op.result V) = op.result V := by
  funext b
  by_cases hb : b ∈ op.writes
  · rw [hw, Finset.mem_singleton] at hb
    subst hb
    exact h _ _ fun r hr => result_of_writes_ne op V y r hw hr
  · rw [op.result_of_not_mem _ hb]

theorem ne_of_lt {x y : Ref sig .tc} (h : x.idx.1 < y.idx.1) : x ≠ y := by rintro rfl; omega

theorem good_nullary (v : y.ty.Contents Val) (hy) (h : y.idx.1 = n) : Good n (nullary (τ := τ) y v hy) :=
  ⟨⟨y, h, rfl⟩, by simp only [nullary_bufs, Finset.mem_singleton]; rintro b rfl; exact ⟨y, rfl, h.le⟩,
    twice_of _ y rfl fun V V' _ => by rw [nullary_result, nullary_result], rfl⟩

theorem good_unary (f : x.ty.Contents Val → y.ty.Contents Val) (hx hy) (h : y.idx.1 = n) (h1 : x.idx.1 < n) :
    Good n (unary (τ := τ) x y f hx hy) :=
  ⟨⟨y, h, rfl⟩, by
    simp only [unary_bufs, Finset.mem_singleton, Finset.mem_insert]
    rintro b (rfl | rfl); exacts [⟨x, rfl, h1.le⟩, ⟨y, rfl, h.le⟩],
    twice_of _ y rfl fun V V' e => by rw [unary_result, unary_result, e x (ne_of_lt (by omega))], rfl⟩

theorem good_reshape (he hn hx hy) (h : y.idx.1 = n) (h1 : x.idx.1 < n) :
    Good n (reshape (τ := τ) (Val := Val) x y he hn hx hy) :=
  ⟨⟨y, h, rfl⟩, by
    simp only [reshape_bufs, Finset.mem_singleton, Finset.mem_insert]
    rintro b (rfl | rfl); exacts [⟨x, rfl, h1.le⟩, ⟨y, rfl, h.le⟩],
    twice_of _ y rfl fun V V' e' => by rw [reshape_result, reshape_result, e' x (ne_of_lt (by omega))], rfl⟩

theorem good_binary (f : a.ty.Contents Val → b.ty.Contents Val → y.ty.Contents Val) (ha hb hy) (h : y.idx.1 = n)
    (h1 : a.idx.1 < n) (h2 : b.idx.1 < n) : Good n (binary (τ := τ) a b y f ha hb hy) :=
  ⟨⟨y, h, rfl⟩, by
    simp only [binary_bufs, Finset.mem_singleton, Finset.mem_insert]
    rintro d (rfl | rfl | rfl); exacts [⟨a, rfl, h1.le⟩, ⟨b, rfl, h2.le⟩, ⟨y, rfl, h.le⟩],
    twice_of _ y rfl fun V V' e' => by
      rw [binary_result, binary_result, e' a (ne_of_lt (by omega)), e' b (ne_of_lt (by omega))], rfl⟩

theorem good_ternary (f : c.ty.Contents Val → a.ty.Contents Val → b.ty.Contents Val → y.ty.Contents Val) (hc ha hb hy)
    (h : y.idx.1 = n) (h0 : c.idx.1 < n) (h1 : a.idx.1 < n) (h2 : b.idx.1 < n) :
    Good n (ternary (τ := τ) c a b y f hc ha hb hy) :=
  ⟨⟨y, h, rfl⟩, by
    simp only [ternary_bufs, Finset.mem_singleton, Finset.mem_insert]
    rintro d (rfl | rfl | rfl | rfl); exacts [⟨c, rfl, h0.le⟩, ⟨a, rfl, h1.le⟩, ⟨b, rfl, h2.le⟩, ⟨y, rfl, h.le⟩],
    twice_of _ y rfl fun V V' e' => by
      rw [ternary_result, ternary_result, e' c (ne_of_lt (by omega)), e' a (ne_of_lt (by omega)),
        e' b (ne_of_lt (by omega))], rfl⟩

theorem good_quaternary
    (f : a.ty.Contents Val → b.ty.Contents Val → c.ty.Contents Val → e.ty.Contents Val → y.ty.Contents Val) (ha hb hc he hy)
    (h : y.idx.1 = n) (h1 : a.idx.1 < n) (h2 : b.idx.1 < n) (h3 : c.idx.1 < n) (h4 : e.idx.1 < n) :
    Good n (quaternary (τ := τ) a b c e y f ha hb hc he hy) :=
  ⟨⟨y, h, rfl⟩, by
    simp only [quaternary_bufs, Finset.mem_singleton, Finset.mem_insert]
    rintro d (rfl | rfl | rfl | rfl | rfl)
    exacts [⟨a, rfl, h1.le⟩, ⟨b, rfl, h2.le⟩, ⟨c, rfl, h3.le⟩, ⟨e, rfl, h4.le⟩, ⟨y, rfl, h.le⟩],
    twice_of _ y rfl fun V V' e' => by
      rw [quaternary_result, quaternary_result, e' a (ne_of_lt (by omega)), e' b (ne_of_lt (by omega)),
        e' c (ne_of_lt (by omega)), e' e (ne_of_lt (by omega))], rfl⟩

/-- A program is the line of its operations, which are numbered from `n`. -/
def Reads (n : Nat) (p : Prog (TpuEff nD τ sig Val Λ .tc) PUnit) (ops : List (HloOp τ sig Val)) : Prop :=
  p = seq ops ∧ Ordered n ops

theorem Reads.nil (n : Nat) : Reads (nD := nD) (Λ := Λ) n (pure ⟨⟩ : Prog (TpuEff nD τ sig Val Λ .tc) PUnit) ([] : List (HloOp τ sig Val)) :=
  ⟨rfl, .nil n⟩

theorem Reads.last {op : HloOp τ sig Val} (g : Good n op) :
    Reads (nD := nD) (Λ := Λ) n (hlo rfl op fun _ => .ret (⟨⟩ : PUnit)) [op] := ⟨rfl, .cons g (.nil _)⟩

theorem Reads.cons {op : HloOp τ sig Val} {k : Prog (TpuEff nD τ sig Val Λ .tc) PUnit} {ops : List (HloOp τ sig Val)}
    (g : Good n op) (h : Reads (n + 1) k ops) :
    Reads n ((hlo rfl op fun _ => .ret (⟨⟩ : PUnit)) >>= fun _ => k) (op :: ops) :=
  ⟨by rw [h.1]; rfl, .cons g h.2⟩

theorem Reads.append {m : Nat} {p k : Prog (TpuEff nD τ sig Val Λ .tc) PUnit} {l₁ l₂ : List (HloOp τ sig Val)}
    (h₁ : Reads n p l₁) (h₂ : Reads m k l₂) (hm : n + l₁.length = m) : Reads n (p >>= fun _ => k) (l₁ ++ l₂) :=
  ⟨by rw [seq_append, h₁.1, h₂.1], Ordered.append l₁ h₁.2 (hm ▸ h₂.2)⟩

end Cert.Proof.Line
end
-- ==== Proof.RefRun.lean ====
/- The run of the reference: a straight line of host operations. -/
module

public import proofs.«01_k».proof.Defs
public import proofs.«01_k».proof.Proof.Gen.ReferenceIdeal
public import proofs.«01_k».proof.Proof.Line

@[expose] public section

set_option maxRecDepth 16384

noncomputable section

namespace Cert.Proof.Ref

open Idealize.ShloMosaic Idealize.SL.Sem Idealize.ShloMosaic.StableHlo Cert.ReferenceIdeal Cert.Proof.Line

attribute [local instance] Cert.ReferenceIdeal.Gen.facts

/-- A piece of the reference whose results are numbered from `n`. -/
abbrev Piece (n : Nat) (p : Dev nD → Prog (TpuEff nD τ sig (Elt Ideal) (Pipeline.Sig Λ₀ (Fin 0) fun p => (pcfgs (F := Ideal) p).Adm) .tc) PUnit) :=
  {ops : List (HloOp τ sig (Elt Ideal)) // ∀ d, Reads n (p d) ops}

def Piece.of {n : Nat} {p : Dev nD → Prog (TpuEff nD τ sig (Elt Ideal) (Pipeline.Sig Λ₀ (Fin 0) fun p => (pcfgs (F := Ideal) p).Adm) .tc) PUnit}
    {ops : List (HloOp τ sig (Elt Ideal))} (h : ∀ d, Reads n (p d) ops) : Piece n p := ⟨ops, h⟩

set_option maxHeartbeats 40000000 in
/-- The reference's operations, read off its text. -/
def line : Piece 6 (main (F := Ideal)) := by
  apply Piece.of
  intro d
  unfold main
  repeat (first
    | exact Reads.nil _
    | apply Reads.last
    | apply Reads.cons
    | exact good_nullary _ _ rfl
    | exact good_unary _ _ _ rfl (by decide)
    | exact good_reshape _ _ _ _ rfl (by decide)
    | exact good_binary _ _ _ _ rfl (by decide) (by decide)
    | exact good_ternary _ _ _ _ _ rfl (by decide) (by decide) (by decide)
    | exact good_quaternary _ _ _ _ _ _ rfl (by decide) (by decide) (by decide) (by decide))

set_option maxHeartbeats 4000000 in
theorem settled_get (V : Valuation τ sig (Elt Ideal)) (k : Nat) {op : HloOp τ sig (Elt Ideal)} (h : line.1[k]? = some op) :
    op.result (after line.1 V) = after line.1 V :=
  Ordered.settled _ V (line.2 0).2 op (List.mem_of_getElem? h)

end Cert.Proof.Ref
end
-- ==== Proof.RefEq.lean ====
/- Each of the reference's buffers in the end, by the operation that wrote it. -/
module

public import proofs.«01_k».proof.Proof.RefRun
public import proofs.«01_k».proof.Proof.Spec
public import Idealize.ShloMosaic.Lib.Pointwise
public import Idealize.ShloMosaic.Lib.Tactic.CleanTypes

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Rank

attribute [local instance] Cert.ReferenceIdeal.Gen.facts

/-- What the reference's buffers hold in the end. -/
def val (V : Valuation τ sig (Elt Ideal)) (r : Ref sig .tc) : r.ty.Contents (Elt Ideal) := after line.1 V (Proc.devRef .tc r)

/-- A buffer is what its operation makes of the operation's operands. -/
theorem eq0 (V : Valuation τ sig (Elt Ideal)) (k : Nat) {y : Ref sig .tc} {v hy} (h : line.1[k]? = some (nullary y v hy)) :
    val V y = v := (congrFun (settled_get V k h) _).symm.trans (nullary_result y v hy _)
theorem eq1 (V : Valuation τ sig (Elt Ideal)) (k : Nat) {x y : Ref sig .tc} {f hx hy} (h : line.1[k]? = some (unary x y f hx hy)) :
    val V y = f (val V x) := (congrFun (settled_get V k h) _).symm.trans (unary_result x y f hx hy _)
theorem eqR (V : Valuation τ sig (Elt Ideal)) (k : Nat) {x y : Ref sig .tc} {he hn hx hy} (h : line.1[k]? = some (reshape x y he hn hx hy)) :
    val V y = fun i => he ▸ shapeCast y.ty.shape (val V x) hn i := (congrFun (settled_get V k h) _).symm.trans (reshape_result x y he hn hx hy _)
theorem eq2 (V : Valuation τ sig (Elt Ideal)) (k : Nat) {a b y : Ref sig .tc} {f ha hb hy} (h : line.1[k]? = some (binary a b y f ha hb hy)) :
    val V y = f (val V a) (val V b) := (congrFun (settled_get V k h) _).symm.trans (binary_result a b y f ha hb hy _)
theorem eq3 (V : Valuation τ sig (Elt Ideal)) (k : Nat) {c a b y : Ref sig .tc} {f hc ha hb hy} (h : line.1[k]? = some (ternary c a b y f hc ha hb hy)) :
    val V y = f (val V c) (val V a) (val V b) := (congrFun (settled_get V k h) _).symm.trans (ternary_result c a b y f hc ha hb hy _)
theorem eq4 (V : Valuation τ sig (Elt Ideal)) (k : Nat) {a b c e y : Ref sig .tc} {f ha hb hc he hy} (h : line.1[k]? = some (quaternary a b c e y f ha hb hc he hy)) :
    val V y = f (val V a) (val V b) (val V c) (val V e) := (congrFun (settled_get V k h) _).symm.trans (quaternary_result a b c e y f ha hb hc he hy _)

/-- The arguments and the values the stages meet at, with their types. -/
def A0 (V : Valuation τ sig (Elt Ideal)) : FVec Ideal S16x8400x80 .f32 := val V main_arg0
def A1 (V : Valuation τ sig (Elt Ideal)) : FVec Ideal S16x8400x4 .f32 := val V main_arg1
def A2 (V : Valuation τ sig (Elt Ideal)) : FVec Ideal S8400x2 .f32 := val V main_arg2
def A3 (V : Valuation τ sig (Elt Ideal)) : IVec S16x32x1 32 := val V main_arg3
def A4 (V : Valuation τ sig (Elt Ideal)) : FVec Ideal S16x32x4 .f32 := val V main_arg4
def A5 (V : Valuation τ sig (Elt Ideal)) : FVec Ideal S16x32x1 .f32 := val V main_arg5
def r0 (V : Valuation τ sig (Elt Ideal)) : FVec Ideal S512x1x4 .f32 := val V main_v0
def r11 (V : Valuation τ sig (Elt Ideal)) : FVec Ideal S512x8400x4 .f32 := val V main_v11
def r12 (V : Valuation τ sig (Elt Ideal)) : FVec Ideal S16x32x8400x4 .f32 := val V main_v12
def r13 (V : Valuation τ sig (Elt Ideal)) : FVec Ideal S16x32x8400 .f32 := val V main_v13
def r14 (V : Valuation τ sig (Elt Ideal)) : FVec Ideal S16x32x8400 .f32 := val V main_v14
def r15 (V : Valuation τ sig (Elt Ideal)) : IVec S16x32x8400 1 := val V main_v15
def r20 (V : Valuation τ sig (Elt Ideal)) : IVec S16x32x8400 1 := val V main_v20
def r21 (V : Valuation τ sig (Elt Ideal)) : IVec S16x32 32 := val V main_v21
def r26 (V : Valuation τ sig (Elt Ideal)) : IVec S16x32 32 := val V main_v26
def r27 (V : Valuation τ sig (Elt Ideal)) : IVec S16x32x1 32 := val V main_v27
def r28 (V : Valuation τ sig (Elt Ideal)) : FVec Ideal S16x8400x32 .f32 := val V main_v28
def r30 (V : Valuation τ sig (Elt Ideal)) : FVec Ideal S16x32x8400 .f32 := val V main_v30
def r41 (V : Valuation τ sig (Elt Ideal)) : FVec Ideal S16x32x1x1 .f32 := val V main_v41
def r44 (V : Valuation τ sig (Elt Ideal)) : FVec Ideal S16x32x1x1 .f32 := val V main_v44
def r45 (V : Valuation τ sig (Elt Ideal)) : FVec Ideal S16x1x8400x1 .f32 := val V main_v45
def r48 (V : Valuation τ sig (Elt Ideal)) : FVec Ideal S16x1x8400x1 .f32 := val V main_v48
def r76 (V : Valuation τ sig (Elt Ideal)) : FVec Ideal S16x32x8400x1 .f32 := val V main_v76
def r95 (V : Valuation τ sig (Elt Ideal)) : FVec Ideal S16x32x8400x1 .f32 := val V main_v95
def r112 (V : Valuation τ sig (Elt Ideal)) : FVec Ideal S16x32x8400x1 .f32 := val V main_v112
def r113 (V : Valuation τ sig (Elt Ideal)) : FVec Ideal S16x1x8400x1 .f32 := val V main_v113
def r119 (V : Valuation τ sig (Elt Ideal)) : FVec Ideal S16x1x8400x1 .f32 := val V main_v119
def r181 (V : Valuation τ sig (Elt Ideal)) : FVec Ideal S16x1x8400x1 .f32 := val V main_v181
def r190 (V : Valuation τ sig (Elt Ideal)) : FVec Ideal S16x1x8400x1 .f32 := val V main_v190
def r191 (V : Valuation τ sig (Elt Ideal)) : FVec Ideal S16x32x1x1 .f32 := val V main_v191
def r197 (V : Valuation τ sig (Elt Ideal)) : FVec Ideal S16x32x1x1 .f32 := val V main_v197
def r259 (V : Valuation τ sig (Elt Ideal)) : FVec Ideal S16x32x1x1 .f32 := val V main_v259
def r268 (V : Valuation τ sig (Elt Ideal)) : FVec Ideal S16x32x1x1 .f32 := val V main_v268
def r274 (V : Valuation τ sig (Elt Ideal)) : FVec Ideal S16x32x8400x1 .f32 := val V main_v274
def r282 (V : Valuation τ sig (Elt Ideal)) : FVec Ideal S16x32x8400x1 .f32 := val V main_v282
def r283 (V : Valuation τ sig (Elt Ideal)) : FVec Ideal S16x32x8400 .f32 := val V main_v283
def r286 (V : Valuation τ sig (Elt Ideal)) : FVec Ideal S16x32x8400 .f32 := val V main_v286
def r291 (V : Valuation τ sig (Elt Ideal)) : FVec Ideal S16x32x8400 .f32 := val V main_v291
def rIdx (V : Valuation τ sig (Elt Ideal)) : IVec S16x32x13 32 := val V main_indices
def r295 (V : Valuation τ sig (Elt Ideal)) : IVec S16x32x13 32 := val V main_v295
def r296 (V : Valuation τ sig (Elt Ideal)) : IVec S512x13 32 := val V main_v296
def r313 (V : Valuation τ sig (Elt Ideal)) : IVec S512x13x2 32 := val V main_v313
def r315 (V : Valuation τ sig (Elt Ideal)) : IVec S512x8400 32 := val V main_v315
def r318 (V : Valuation τ sig (Elt Ideal)) : IVec S512x8400 32 := val V main_v318
def r319 (V : Valuation τ sig (Elt Ideal)) : IVec S16x32x8400 32 := val V main_v319
def r320 (V : Valuation τ sig (Elt Ideal)) : FVec Ideal S16x32x8400 .f32 := val V main_v320
def r324 (V : Valuation τ sig (Elt Ideal)) : FVec Ideal S16x32x8400 .f32 := val V main_v324
def r330 (V : Valuation τ sig (Elt Ideal)) : IVec S16x8400 32 := val V main_v330
def r332 (V : Valuation τ sig (Elt Ideal)) : FVec Ideal S16x32x8400 .f32 := val V main_v332
def r325 (V : Valuation τ sig (Elt Ideal)) : FVec Ideal S16x8400 .f32 := val V main_v325
def r333 (V : Valuation τ sig (Elt Ideal)) : FVec Ideal S16x8400 .f32 := val V main_v333
def r334 (V : Valuation τ sig (Elt Ideal)) : IVec S16x8400 32 := val V main_v334
def r340 (V : Valuation τ sig (Elt Ideal)) : IVec S16x8400 32 := val V main_v340
def r341 (V : Valuation τ sig (Elt Ideal)) : IVec S512 32 := val V main_v341
def r347 (V : Valuation τ sig (Elt Ideal)) : IVec S16x8400x1 32 := val V main_v347
def r346 (V : Valuation τ sig (Elt Ideal)) : IVec S16x8400 32 := val V main_v346
def r348 (V : Valuation τ sig (Elt Ideal)) : IVec S16x8400 32 := val V main_v348
def r350 (V : Valuation τ sig (Elt Ideal)) : IVec S16x8400 32 := val V main_v350
def r351 (V : Valuation τ sig (Elt Ideal)) : FVec Ideal S512x4 .f32 := val V main_v351
def r358 (V : Valuation τ sig (Elt Ideal)) : FVec Ideal S16x8400x4 .f32 := val V main_v358
def r357 (V : Valuation τ sig (Elt Ideal)) : IVec S16x8400x1 32 := val V main_v357
def r359 (V : Valuation τ sig (Elt Ideal)) : FVec Ideal S16x8400x80 .f32 := val V main_v359
def r364 (V : Valuation τ sig (Elt Ideal)) : FVec Ideal S16x8400x80 .f32 := val V main_v364
def r365 (V : Valuation τ sig (Elt Ideal)) : FVec Ideal S16x32x8400 .f32 := val V main_v365
def r366 (V : Valuation τ sig (Elt Ideal)) : FVec Ideal S16x32 .f32 := val V main_v366
def r368 (V : Valuation τ sig (Elt Ideal)) : FVec Ideal S16x32x8400 .f32 := val V main_v368
def r369 (V : Valuation τ sig (Elt Ideal)) : FVec Ideal S16x32 .f32 := val V main_v369
def r367 (V : Valuation τ sig (Elt Ideal)) : FVec Ideal S16x32x1 .f32 := val V main_v367
def r371 (V : Valuation τ sig (Elt Ideal)) : FVec Ideal S16x32x8400 .f32 := val V main_v371
def r372 (V : Valuation τ sig (Elt Ideal)) : FVec Ideal S16x32x8400 .f32 := val V main_v372
def r373 (V : Valuation τ sig (Elt Ideal)) : FVec Ideal S16x32x1 .f32 := val V main_v373
def r375 (V : Valuation τ sig (Elt Ideal)) : FVec Ideal S16x32x8400 .f32 := val V main_v375
def r297 (V : Valuation τ sig (Elt Ideal)) : IVec S512x8400 32 := val V main_v297
def r314 (V : Valuation τ sig (Elt Ideal)) : IVec S512x13 32 := val V main_v314
def r374 (V : Valuation τ sig (Elt Ideal)) : FVec Ideal S16x32x1 .f32 := val V main_v374
def r376 (V : Valuation τ sig (Elt Ideal)) : FVec Ideal S16x32x8400 .f32 := val V main_v376
def r377 (V : Valuation τ sig (Elt Ideal)) : FVec Ideal S16x8400 .f32 := val V main_v377
def r380 (V : Valuation τ sig (Elt Ideal)) : FVec Ideal S16x8400x80 .f32 := val V main_v380
def r383 (V : Valuation τ sig (Elt Ideal)) : IVec S16x8400 1 := val V main_v383

/-- One image of the reference's arguments. -/
def img (V : Valuation τ sig (Elt Ideal)) (b : Fin 16) : Image where
  ps a c := A0 V (ix3 b a c)
  pb a k := A1 V (ix3 b a k)
  an a k := A2 V (ix2 a k)
  lab m := A3 V (ix3 b m 0)
  gt m k := A4 V (ix3 b m k)
  mg m := A5 V (ix3 b m 0)

end Cert.Proof.Ref
end
-- ==== Proof.RefOps.lean ====
module

public import proofs.«01_k».proof.Proof.RefEq
public import proofs.«01_k».proof.Proof.Spec
public import proofs.«01_k».proof.Proof.Arg
public import Idealize.ShloMosaic.Lib.Pointwise
public import Idealize.ShloMosaic.Lib.Tactic.CleanTypes

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Arg Cert.Proof.Rank

attribute [local instance] Cert.ReferenceIdeal.Gen.facts

/-- Looking up a class's scores. -/
theorem gatherA (x : FVec Ideal S16x8400x80 .f32) (idx : IVec S16x32x1 32) (b : Fin 16) (a : Fin 8400) (m : Fin 32) (v : Fin 80)
    (h : idx (ix3 b m 0) = BitVec.ofNat 32 v.1) :
    Host.gather gather_S16x8400x80_S16x32x1_S16x8400x32_1_2_0_0_2_2_184001 x idx (ix3 b a m) = x (ix3 b a v) := by
  have hi : gather_S16x8400x80_S16x32x1_S16x8400x32_1_2_0_0_2_2_184001.siIdx (ix3 b a m) ⟨0, by decide⟩ = ix3 b m 0 := by
    funext k
    fin_cases k <;> rfl
  have hn : (BitVec.ofNat 32 v.1).toInt.toNat = v.1 := by
    have := v.2
    rw [BitVec.toInt_eq_toNat_of_lt] <;> rw [BitVec.toNat_ofNat] <;> omega
  refine congrArg x (funext fun k => Fin.ext ?_)
  fin_cases k
  · show GatherDims.start _ _ _ _ + GatherDims.batchCoord _ _ _ + GatherDims.offCoord _ _ _ = b.1
    rw [GatherDims.start, dif_neg (by decide), GatherDims.offCoord, dif_neg (by decide)]
    show 0 + b.1 + 0 = b.1
    omega
  · show GatherDims.start _ _ _ _ + GatherDims.batchCoord _ _ _ + GatherDims.offCoord _ _ _ = a.1
    rw [GatherDims.start, dif_neg (by decide), GatherDims.batchCoord, dif_neg (by decide)]
    show 0 + 0 + a.1 = a.1
    omega
  · show GatherDims.start _ _ _ _ + GatherDims.batchCoord _ _ _ + GatherDims.offCoord _ _ _ = v.1
    rw [GatherDims.batchCoord, dif_neg (by decide), GatherDims.offCoord, dif_neg (by decide), GatherDims.start, dif_pos (by decide)]
    show min (idx (GatherDims.siIdx _ _ ⟨0, _⟩)).toInt.toNat (80 - 1) + 0 + 0 = v.1
    rw [hi, h, hn]
    have := v.2
    omega

/-- Looking up a word of a box. -/
theorem gatherB (x : IVec S512 32) (idx : IVec S16x8400x1 32) (b : Fin 16) (a : Fin 8400) (r : Fin 512)
    (h : idx (ix3 b a 0) = BitVec.ofNat 32 r.1) :
    Host.gather gather_S512_S16x8400x1_S16x8400_n_0_n_n_0_2_1 x idx (ix2 b a) = x (ix1 r) := by
  have hi : gather_S512_S16x8400x1_S16x8400_n_0_n_n_0_2_1.siIdx (ix2 b a) ⟨0, by decide⟩ = ix3 b a 0 := by
    funext k
    fin_cases k <;> rfl
  have hn : (BitVec.ofNat 32 r.1).toInt.toNat = r.1 := by
    have := r.2
    rw [BitVec.toInt_eq_toNat_of_lt] <;> rw [BitVec.toNat_ofNat] <;> omega
  refine congrArg x (funext fun k => Fin.ext ?_)
  fin_cases k
  show GatherDims.start _ _ _ _ + GatherDims.batchCoord _ _ _ + GatherDims.offCoord _ _ _ = r.1
  rw [GatherDims.batchCoord, dif_neg (by decide), GatherDims.offCoord, dif_neg (by decide), GatherDims.start, dif_pos (by decide)]
  show min (idx (GatherDims.siIdx _ _ ⟨0, _⟩)).toInt.toNat (512 - 1) + 0 + 0 = r.1
  rw [hi, h, hn]
  have := r.2
  omega

/-- Looking up the corners of a box. -/
theorem gatherC (x : FVec Ideal S512x4 .f32) (idx : IVec S16x8400x1 32) (b : Fin 16) (a : Fin 8400) (c : Fin 4) (r : Fin 512)
    (h : idx (ix3 b a 0) = BitVec.ofNat 32 r.1) :
    Host.gather gather_S512x4_S16x8400x1_S16x8400x4_2_0_n_n_0_2_14 x idx (ix3 b a c) = x (ix2 r c) := by
  have hi : gather_S512x4_S16x8400x1_S16x8400x4_2_0_n_n_0_2_14.siIdx (ix3 b a c) ⟨0, by decide⟩ = ix3 b a 0 := by
    funext k
    fin_cases k <;> rfl
  have hn : (BitVec.ofNat 32 r.1).toInt.toNat = r.1 := by
    have := r.2
    rw [BitVec.toInt_eq_toNat_of_lt] <;> rw [BitVec.toNat_ofNat] <;> omega
  refine congrArg x (funext fun k => Fin.ext ?_)
  fin_cases k
  · show GatherDims.start _ _ _ _ + GatherDims.batchCoord _ _ _ + GatherDims.offCoord _ _ _ = r.1
    rw [GatherDims.batchCoord, dif_neg (by decide), GatherDims.offCoord, dif_neg (by decide), GatherDims.start, dif_pos (by decide)]
    show min (idx (GatherDims.siIdx _ _ ⟨0, _⟩)).toInt.toNat (512 - 1) + 0 + 0 = r.1
    rw [hi, h, hn]
    have := r.2
    omega
  · show GatherDims.start _ _ _ _ + GatherDims.batchCoord _ _ _ + GatherDims.offCoord _ _ _ = c.1
    rw [GatherDims.start, dif_neg (by decide), GatherDims.batchCoord, dif_neg (by decide)]
    show 0 + 0 + c.1 = c.1
    omega

/-- The position of the greatest of some entries, from an empty start: what the fold over them keeps. -/
theorem fold_first {n : Nat} (hn : n < 2147483648) (w : Fin n → EReal) (l : List (EReal × BitVec 32)) :
    ∀ acc : EReal × BitVec 32, ((acc.1 = ⊥ ∧ acc.2 = 0#32) ∨ ∃ m : Fin n, acc = (w m, BitVec.ofNat 32 m.1)) →
    (∀ p ∈ l, ∃ m : Fin n, p = (w m, BitVec.ofNat 32 m.1)) →
    let r := l.foldl (reducer_argmax_f32_i32 (F := Ideal)) acc
    ((r.1 = ⊥ ∧ r.2 = 0#32) ∨ ∃ m : Fin n, r = (w m, BitVec.ofNat 32 m.1))
      ∧ (acc.1 ≤ r.1 ∧ (acc.1 = r.1 → r.2.toNat ≤ acc.2.toNat))
      ∧ ∀ m : Fin n, (w m, BitVec.ofNat 32 m.1) ∈ l → w m ≤ r.1 ∧ (w m = r.1 → r.2.toNat ≤ m.1) := by
  induction l with
  | nil => exact fun acc h _ => ⟨h, ⟨le_rfl, fun _ => le_rfl⟩, fun m q => absurd q List.not_mem_nil⟩
  | cons p l ih =>
    intro acc h hl
    obtain ⟨k, rfl⟩ := hl p List.mem_cons_self
    have nat : ∀ m : Fin n, (BitVec.ofNat 32 m.1).toNat = m.1 := fun m => by
      rw [BitVec.toNat_ofNat]; have := m.2; omega
    have small : acc.2.toNat < 2147483648 := by
      rcases h with h | ⟨m, rfl⟩
      · rw [h.2]; decide
      · rw [nat]; exact m.2.trans hn
    -- one step
    have step : let s := reducer_argmax_f32_i32 (F := Ideal) acc (w k, BitVec.ofNat 32 k.1)
        (s = acc ∧ w k ≤ acc.1 ∧ (w k = acc.1 → acc.2.toNat ≤ k.1))
        ∨ (s = (w k, BitVec.ofNat 32 k.1) ∧ acc.1 ≤ w k ∧ (acc.1 = w k → k.1 ≤ acc.2.toNat)) := by
      have e2 : (FloatOps.cmpf (F := Ideal) (φ := .f32) .ogt acc.1 (w k) : BitVec 1) = BitVec.ofBool (decide (w k < acc.1)) := by
        rw [Ideal.cmpf_def]; simp [Ideal.cmp]
      have e3 : (FloatOps.cmpf (F := Ideal) (φ := .f32) .une acc.1 acc.1 : BitVec 1) = 0#1 := by
        rw [Ideal.cmpf_def]; simp [Ideal.cmp]
      have e5 : (FloatOps.cmpf (F := Ideal) (φ := .f32) .oeq acc.1 (w k) : BitVec 1) = BitVec.ofBool (decide (acc.1 = w k)) := by
        rw [Ideal.cmpf_def]; simp [Ideal.cmp]
      have e6 : IntOp.cmpi .slt acc.2 (BitVec.ofNat 32 k.1) = BitVec.ofBool (decide (acc.2.toNat < k.1)) := by
        show BitVec.ofBool (acc.2.slt _) = _
        congr 1
        rw [Bool.eq_iff_iff, BitVec.slt_iff_toInt_lt, BitVec.toInt_eq_toNat_of_lt (by omega), BitVec.toInt_eq_toNat_of_lt (by rw [nat]; have := k.2; omega), nat]
        simp
      intro s
      have hs : s = (Scalar.select (IntOp.ori (FloatOps.cmpf (F := Ideal) (φ := .f32) .ogt acc.1 (w k)) (FloatOps.cmpf (F := Ideal) (φ := .f32) .une acc.1 acc.1)) acc.1 (w k),
        Scalar.select (IntOp.ori (IntOp.ori (FloatOps.cmpf (F := Ideal) (φ := .f32) .ogt acc.1 (w k)) (FloatOps.cmpf (F := Ideal) (φ := .f32) .une acc.1 acc.1))
          (IntOp.andi (FloatOps.cmpf (F := Ideal) (φ := .f32) .oeq acc.1 (w k)) (IntOp.cmpi .slt acc.2 (BitVec.ofNat 32 k.1)))) acc.2 (BitVec.ofNat 32 k.1)) := rfl
      rw [e2, e3, e5, e6] at hs
      rcases lt_trichotomy (w k) acc.1 with q | q | q
      · left
        refine ⟨hs.trans ?_, q.le, fun e => absurd e q.ne⟩
        rw [decide_eq_true q]
        have or1 : ∀ z : BitVec 1, 1#1 ||| z = 1#1 := by decide
        simp [Scalar.select, IntOp.ori, or1]
      · by_cases c : acc.2.toNat < k.1
        · left
          refine ⟨hs.trans ?_, q.le, fun _ => c.le⟩
          rw [decide_eq_false (not_lt.mpr q.ge), decide_eq_true q.symm, decide_eq_true c]
          simp [Scalar.select, IntOp.ori, IntOp.andi, q]
        · right
          refine ⟨hs.trans ?_, q.ge, fun _ => not_lt.mp c⟩
          rw [decide_eq_false (not_lt.mpr q.ge), decide_eq_true q.symm, decide_eq_false c]
          simp [Scalar.select, IntOp.ori, IntOp.andi]
      · right
        refine ⟨hs.trans ?_, q.le, fun e => absurd e q.ne⟩
        rw [decide_eq_false (not_lt.mpr q.le), decide_eq_false q.ne]
        simp [Scalar.select, IntOp.ori, IntOp.andi]
    intro r
    rcases step with ⟨hs, h1, h2⟩ | ⟨hs, h1, h2⟩
    · have := ih acc h fun p hp => hl p (List.mem_cons_of_mem _ hp)
      have hr : r = l.foldl (reducer_argmax_f32_i32 (F := Ideal)) acc := by
        show l.foldl _ (reducer_argmax_f32_i32 (F := Ideal) acc _) = _
        rw [hs]
      rw [← hr] at this
      refine ⟨this.1, this.2.1, fun m hm => ?_⟩
      rcases List.mem_cons.mp hm with e | e
      · have e1 : w m = w k := congrArg Prod.fst e
        have e2 : m.1 = k.1 := by have := congrArg (fun p => p.2.toNat) e; simpa only [nat] using this
        rw [e1, e2]
        refine ⟨h1.trans this.2.1.1, fun q => ?_⟩
        have e3 : w k = acc.1 := le_antisymm h1 (q ▸ this.2.1.1)
        exact (this.2.1.2 (e3.symm.trans q)).trans (h2 e3)
      · exact this.2.2 m e
    · have := ih (w k, BitVec.ofNat 32 k.1) (.inr ⟨k, rfl⟩) fun p hp => hl p (List.mem_cons_of_mem _ hp)
      have hr : r = l.foldl (reducer_argmax_f32_i32 (F := Ideal)) (w k, BitVec.ofNat 32 k.1) := by
        show l.foldl _ (reducer_argmax_f32_i32 (F := Ideal) acc _) = _
        rw [hs]
      rw [← hr] at this
      have b := this.2.1
      rw [nat] at b
      refine ⟨this.1, ⟨h1.trans b.1, fun q => ?_⟩, fun m hm => ?_⟩
      · have e3 : acc.1 = w k := le_antisymm h1 (q ▸ b.1)
        exact (b.2 (e3.symm.trans q)).trans (h2 e3)
      · rcases List.mem_cons.mp hm with e | e
        · have e1 : w m = w k := congrArg Prod.fst e
          have e2 : m.1 = k.1 := by have := congrArg (fun p => p.2.toNat) e; simpa only [nat] using this
          rw [e1, e2]
          exact b
        · exact this.2.2 m e

/-- The position of the greatest entry over the boxes is the lowest one. -/
theorem argmax (x : FVec Ideal S16x32x8400 .f32) (y : IVec S16x32x8400 32) (u : FVec Ideal S_ .f32) (v : IVec S_ 32)
    (h : S16x32x8400.ReducesTo [1] S16x8400) (hu : 0 < S_.numel) (hy : ∀ b m a, y (ix3 b m a) = BitVec.ofNat 32 m.1)
    (hu0 : u (Shape.Idx.first hu) = (⊥ : EReal)) (hv0 : v (Shape.Idx.first hu) = 0#32) (b : Fin 16) (a : Fin 8400) :
    (Host.argReduce reducer_argmax_f32_i32 x y u v h hu (ix2 b a)).2 = BitVec.ofNat 32 (first fun m => x (ix3 b m a)).1 := by
  rw [Ideal.argReduce_eq_reduce2, Host.reduce2_eq_foldl_fiber, hu0, hv0]
  have mem : ∀ p : EReal × BitVec 32, p ∈ Host.argReduceFiber x y h (ix2 b a) ↔ ∃ m : Fin 32, p = (x (ix3 b m a), BitVec.ofNat 32 m.1) := by
    intro p
    unfold Host.argReduceFiber
    rw [List.mem_map]
    constructor
    · rintro ⟨n, hn, rfl⟩
      obtain ⟨m, hm⟩ := (h.fiber_r3_a1 _ _).mp (by simpa using (List.mem_filter.mp hn).2)
      refine ⟨m, ?_⟩
      rw [← hm]
      exact congrArg₂ Prod.mk rfl (hy _ _ _)
    · rintro ⟨m, rfl⟩
      refine ⟨S16x32x8400.rowMajor (ix3 b m a), List.mem_filter.mpr ⟨List.mem_finRange _, ?_⟩, ?_⟩
      · rw [Equiv.symm_apply_apply]
        simp only [decide_eq_true_eq]
        exact (h.fiber_r3_a1 _ _).mpr ⟨m, rfl⟩
      · rw [Equiv.symm_apply_apply, hy]
  obtain ⟨h1, -, h3⟩ := fold_first (n := 32) (by norm_num) (fun m => x (ix3 b m a)) (Host.argReduceFiber x y h (ix2 b a)) (⊥, 0#32)
    (.inl ⟨rfl, rfl⟩) fun p hp => (mem p).mp hp
  have h3 := fun m => h3 m ((mem _).mpr ⟨m, rfl⟩)
  generalize List.foldl _ _ _ = r at h1 h3 ⊢
  rcases h1 with ⟨e1, e2⟩ | ⟨m, e⟩
  · rw [e2]
    have f : First (fun m => x (ix3 b m a)) (0 : Fin 32) :=
      ⟨fun m => (h3 m).1.trans (e1 ▸ bot_le), fun m _ => Fin.zero_le m⟩
    rw [(first_spec _).eq f]
    rfl
  · have f : First (fun m => x (ix3 b m a)) m := by
      refine ⟨fun k => by simpa [e] using (h3 k).1, fun k q => ?_⟩
      have := (h3 k).2 (by rw [e]; exact q)
      rw [e] at this
      have hm := m.2
      simp only [BitVec.toNat_ofNat] at this
      rw [Fin.le_def]
      omega
    rw [(first_spec _).eq f, e]

theorem iotaInDim_along {s : Shape} (j : s.Idx) (d : Fin s.rank) (c : Fin (s.size d)) :
    iotaInDim s 32 d (j.along d c) = BitVec.ofNat 32 c.1 := by
  show BitVec.ofNat 32 (Function.update j d c d).1 = _
  rw [Function.update_self]

/-- What the selection of the thirteen best entries of a row returns: the entry at place `k` has rank `k`. -/
theorem topk (x : FVec Ideal S16x32x8400 .f32) (h : S16x32x8400.Slices (fun _ => 0) S16x32x13) (b : Fin 16) (m : Fin 32) (k : Fin 13) :
    ∃ p : Fin 8400, (Host.topK S16x32x13 2 (FloatOps.cmpfTotal (F := Ideal) .gt) x h).2 (ix3 b m k) = BitVec.ofNat 32 p.1
      ∧ rank (fun a => x (ix3 b m a)) p = k.1 := by
  refine ⟨sortedFrom (fun c c' => FloatOps.cmpfTotal (F := Ideal) (φ := .f32) .gt (x (ix3 b m c)) (x (ix3 b m c')) == 1#1) ⟨k.1, by omega⟩, ?_, rank_sortedFrom _ _ ?_ _⟩
  · unfold Host.topK Host.sort2
    simp only [extractStridedSlice]
    rw [dif_pos (by decide : 2 < S16x32x8400.rank)]
    show iotaInDim S16x32x8400 32 2 (Shape.Idx.along (s := S16x32x8400) (ix3 b m _) 2 _) = _
    refine (iotaInDim_along (s := S16x32x8400) (ix3 b m _) 2 _).trans ?_
    refine congrArg (fun z : Fin 8400 => BitVec.ofNat 32 z.1) (congrArg₂ sortedFrom (funext fun c => funext fun c' => ?_) (Fin.ext (Nat.zero_add _)))
    refine congrArg (· == 1#1) (congrArg₂ (FloatOps.cmpfTotal (F := Ideal) (φ := .f32) .gt) (congrArg x ?_) (congrArg x ?_))
    all_goals
      funext i
      fin_cases i
      · exact Fin.ext (Nat.zero_add _)
      · exact Fin.ext (Nat.zero_add _)
      · rfl
  · intro c c'
    rw [beq_iff_eq, Ideal.cmpfTotal_def]
    simp only [Ideal.cmp, CmpDirection.ordered]
    exact ofBool_one _

theorem count {si u s : Shape} {w : Nat} (d : ScatterDims s si u) (idx : IVec si w) (upd : IVec u 32) (hu : ∀ j, upd j = 1#32) (i : s.Idx) (l : List (Fin u.numel)) :
    ∀ (x : IVec s 32) (c : Nat), x i = BitVec.ofNat 32 c →
    l.foldl (fun r n => match d.resultIdx? (u.rowMajor.symm n) idx with
      | some i => fun i' => if i' = i then IntOp.addi (r i) (upd (u.rowMajor.symm n)) else r i'
      | none => r) x i
      = BitVec.ofNat 32 (c + (l.map fun n => if d.resultIdx? (u.rowMajor.symm n) idx = some i then 1 else 0).sum) := by
  induction l with
  | nil => exact fun x c h => h
  | cons n l ih =>
    intro x c h
    rw [List.foldl_cons, List.map_cons, List.sum_cons]
    rcases e : d.resultIdx? (u.rowMajor.symm n) idx with _ | i'
    · rw [ih _ c h]
      simp
    · by_cases q : i = i'
      · subst q
        rw [ih _ (c + 1) (by
          simp only [if_true, hu, h]
          exact (BitVec.ofNat_add c 1).symm)]
        simp [Nat.add_assoc]
      · rw [ih _ c (by simp only [if_neg q]; exact h)]
        simp [Ne.symm q]

theorem lands (idx : IVec S512x13x2 32) (r : Fin 512) (k : Fin 13) (p : Fin 8400) (h0 : idx (ix3 r k 0) = BitVec.ofNat 32 r.1)
    (h1 : idx (ix3 r k 1) = BitVec.ofNat 32 p.1) :
    scatter_S512x8400_S512x13x2_S512x13_n_01_01_2.resultIdx? (ix2 r k) idx = some (ix2 r p) := by
  have i0 : scatter_S512x8400_S512x13x2_S512x13_n_01_01_2.siIdx (ix2 r k) ⟨0, by decide⟩ = ix3 r k 0 := by
    funext k
    fin_cases k <;> rfl
  have i1 : scatter_S512x8400_S512x13x2_S512x13_n_01_01_2.siIdx (ix2 r k) ⟨1, by decide⟩ = ix3 r k 1 := by
    funext k
    fin_cases k <;> rfl
  have n0 : (BitVec.ofNat 32 r.1).toInt = r.1 := by
    have := r.2
    rw [BitVec.toInt_eq_toNat_of_lt] <;> rw [BitVec.toNat_ofNat] <;> omega
  have n1 : (BitVec.ofNat 32 p.1).toInt = p.1 := by
    have := p.2
    rw [BitVec.toInt_eq_toNat_of_lt] <;> rw [BitVec.toNat_ofNat] <;> omega
  have s0 : ScatterDims.start scatter_S512x8400_S512x13x2_S512x13_n_01_01_2 (ix2 r k) idx ⟨0, by decide⟩
      + ScatterDims.window scatter_S512x8400_S512x13x2_S512x13_n_01_01_2 (ix2 r k) ⟨0, by decide⟩ = (r.1 : Int) := by
    rw [ScatterDims.window, dif_neg (by decide), ScatterDims.start, dif_pos (by decide)]
    show (idx (ScatterDims.siIdx _ _ ⟨0, _⟩)).toInt + 0 = _
    rw [i0, h0, n0]
    omega
  have s1 : ScatterDims.start scatter_S512x8400_S512x13x2_S512x13_n_01_01_2 (ix2 r k) idx ⟨1, by decide⟩
      + ScatterDims.window scatter_S512x8400_S512x13x2_S512x13_n_01_01_2 (ix2 r k) ⟨1, by decide⟩ = (p.1 : Int) := by
    rw [ScatterDims.window, dif_neg (by decide), ScatterDims.start, dif_pos (by decide)]
    show (idx (ScatterDims.siIdx _ _ ⟨1, _⟩)).toInt + 0 = _
    rw [i1, h1, n1]
    omega
  have s : ∀ a, ScatterDims.start scatter_S512x8400_S512x13x2_S512x13_n_01_01_2 (ix2 r k) idx a
      + ScatterDims.window scatter_S512x8400_S512x13x2_S512x13_n_01_01_2 (ix2 r k) a = ((ix2 r p : S512x8400.Idx) a).1 := by
    intro a
    fin_cases a
    · exact s0
    · exact s1
  unfold ScatterDims.resultIdx?
  rw [dif_pos (fun a => by rw [s a]; exact ⟨Int.natCast_nonneg _, Int.ofNat_lt.mpr (Fin.isLt _)⟩)]
  congr 1
  funext a
  refine Fin.ext ?_
  show (_ + _ : Int).toNat = _
  rw [s a]
  exact Int.toNat_natCast _

theorem scattered (x : IVec S512x8400 32) (idx : IVec S512x13x2 32) (upd : IVec S512x13 32) (hx : ∀ j, x j = 0#32) (hu : ∀ j, upd j = 1#32)
    (p : Fin 512 → Fin 13 → Fin 8400) (h0 : ∀ r k, idx (ix3 r k 0) = BitVec.ofNat 32 r.1)
    (h1 : ∀ r k, idx (ix3 r k 1) = BitVec.ofNat 32 (p r k).1) (r : Fin 512) (a : Fin 8400) :
    Host.scatter scatter_S512x8400_S512x13x2_S512x13_n_01_01_2 IntOp.addi x idx upd (ix2 r a)
      = BitVec.ofNat 32 (∑ k : Fin 13, if p r k = a then 1 else 0) := by
  unfold Host.scatter
  refine (count _ idx upd hu _ _ x 0 (hx _)).trans ?_
  rw [Nat.zero_add, ← Fin.sum_univ_def, Equiv.sum_comp S512x13.rowMajor.symm (fun j => if
    scatter_S512x8400_S512x13x2_S512x13_n_01_01_2.resultIdx? j idx = some (ix2 r a) then 1 else 0), sum_idx2, Finset.sum_eq_single r]
  · congr 1
    refine Finset.sum_congr rfl fun k _ => ?_
    rw [lands idx r k (p r k) (h0 r k) (h1 r k)]
    refine if_congr ⟨fun e => ?_, fun e => by rw [e]⟩ rfl rfl
    exact congrFun (Option.some.inj e) 1
  · intro r' _ ne
    refine Finset.sum_eq_zero fun k _ => if_neg ?_
    rw [lands idx r' k (p r' k) (h0 r' k) (h1 r' k)]
    exact fun e => ne (congrFun (Option.some.inj e) 0)
  · exact fun h => absurd (Finset.mem_univ _) h

end Cert.Proof.Ref
end
-- ==== Proof.RefMask.lean ====
/- The pairs of a box and an anchor inside it, in the reference. -/
module

public import proofs.«01_k».proof.Proof.RefOps
public import proofs.«01_k».proof.Proof.Spec
public import proofs.«01_k».proof.Proof.Arg
public import Idealize.ShloMosaic.Lib.Pointwise
public import Idealize.ShloMosaic.Lib.Tactic.CleanTypes

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Arg Cert.Proof.Rank

attribute [local instance] Cert.ReferenceIdeal.Gen.facts

variable (V : Valuation τ sig (Elt Ideal))

/-- A flag as a number. -/
theorem flagU (b : BitVec 1) : (FloatOps.uitofp FTy.f32 b : Ideal .f32) = if b = 1#1 then (1 : EReal) else 0 := by
  have : b = 0#1 ∨ b = 1#1 := by
    revert b; decide
  rcases this with rfl | rfl
  · show (((0#1).toNat : ℝ) : EReal) = _
    simp
  · show (((1#1).toNat : ℝ) : EReal) = _
    simp

/-- One vector's entry above another's. -/
theorem cmp_lt {s : Shape} (x y : FVec Ideal s .f32) (i : s.Idx) : cmpf .ogt x y i = 1#1 ↔ (y i : EReal) < x i := by
  pointwise []
  exact ofBool_one _

/-- One vector's entry not another's. -/
theorem cmp_ne {s : Shape} (x y : FVec Ideal s .f32) (i : s.Idx) : cmpf .une x y i = 1#1 ↔ (x i : EReal) ≠ y i := by
  pointwise []
  exact ofBool_one _

/-- The row of a box among the boxes of all images. -/
def row (b : Fin 16) (m : Fin 32) : Fin 512 := ⟨b.1 * 32 + m.1, by omega⟩

theorem row_div (b : Fin 16) (m : Fin 32) (h : (row b m).1 / 32 < 16) : (⟨(row b m).1 / 32, h⟩ : Fin 16) = b := by
  apply Fin.ext
  have := m.2
  show (b.1 * 32 + m.1) / 32 = b.1
  omega

theorem row_mod (b : Fin 16) (m : Fin 32) (h : (row b m).1 % 32 < 32) : (⟨(row b m).1 % 32, h⟩ : Fin 32) = m := by
  apply Fin.ext
  have := m.2
  show (b.1 * 32 + m.1) % 32 = m.1
  omega

/-- A difference above a real number. -/
theorem lt_sub_real (e g : ℝ) (x : EReal) : ((e : EReal) < x - g ↔ (g : EReal) + e < x) ∧ ((e : EReal) < g - x ↔ x < (g : EReal) - e) := by
  induction x using EReal.rec with
  | bot => simp [← EReal.coe_add, ← EReal.coe_sub]
  | top => simp [← EReal.coe_add, ← EReal.coe_sub]
  | coe r =>
    simp only [← EReal.coe_add, ← EReal.coe_sub, EReal.coe_lt_coe_iff]
    constructor <;> constructor <;> intro h <;> linarith

/-- The boxes, one after another. -/
theorem boxes (b : Fin 16) (m : Fin 32) (k : Fin 4) : r0 V (ix3 (row b m) 0 k) = A4 V (ix3 b m k) := by
  have h : r0 V = shapeCast S512x1x4 (A4 V) (by decide) := eqR V 0 rfl
  rw [h]
  generalize A4 V = x
  pointwise []
  rw [row_div, row_mod]

/-- How far an anchor is inside the sides of a box, image by image. -/
theorem margins (b : Fin 16) (m : Fin 32) (a : Fin 8400) (k : Fin 4) : r12 V (ix4 b m a k) = r11 V (ix3 (row b m) a k) := by
  have h : r12 V = shapeCast S16x32x8400x4 (r11 V) (by decide) := eqR V 12 rfl
  rw [h]
  generalize r11 V = x
  pointwise []
  rfl

/-- How far an anchor is inside the sides of a box. -/
theorem margin (b : Fin 16) (m : Fin 32) (a : Fin 8400) (k : Fin 4) : r12 V (ix4 b m a k)
    = if h : k.1 < 2 then (img V b).an a ⟨k.1, h⟩ - (img V b).gt m k else (img V b).gt m k - (img V b).an a ⟨k.1 - 2, by omega⟩ := by
  rw [margins]
  have e := boxes V b m
  show _ = if h : k.1 < 2 then A2 V (ix2 a ⟨k.1, h⟩) - A4 V (ix3 b m k) else A4 V (ix3 b m k) - A2 V (ix2 a ⟨k.1 - 2, by omega⟩)
  generalize A4 V = x4 at e ⊢
  unfold r11
  rw [eq2 V 11 rfl, eq2 V 10 rfl, eq1 V 9 rfl, eq1 V 8 rfl, eq1 V 7 rfl, eq2 V 6 rfl, eq1 V 5 rfl, eq1 V 4 rfl, eq1 V 3 rfl, eq1 V 2 rfl, eq1 V 1 rfl]
  rw [show val V main_arg2 = A2 V from rfl]
  rw [show val V main_v0 = r0 V from rfl]
  generalize A2 V = xA2 at e ⊢
  generalize r0 V = xr0 at e ⊢
  pointwise [e]
  by_cases h : k.1 < 2
  · rw [dif_pos h, dif_pos h]
  · rw [dif_neg h, dif_neg h]
    congr 3
    apply Fin.ext
    show 2 + (k.1 - 2) = k.1
    omega

/-- The least of the four margins. -/
theorem least_margin (b : Fin 16) (m : Fin 32) (a : Fin 8400) : r13 V (ix3 b m a) = Finset.univ.fold min (Ideal.ofBits .f32 0x7F800000#32) fun k => r12 V (ix4 b m a k) := by
  unfold r13
  rw [eq2 V 14 rfl, eq0 V 13 rfl]
  rw [show val V main_v12 = r12 V from rfl]
  generalize r12 V = xr12
  clean_types
  pointwise []

theorem eps (b : Fin 16) (m : Fin 32) (a : Fin 8400) : r14 V (ix3 b m a) = Ideal.ofBits .f32 0x3089705F#32 := by
  unfold r14
  rw [eq1 V 16 rfl, eq0 V 15 rfl]

  clean_types
  pointwise []

/-- The flag of an anchor inside a box. -/
theorem inside (b : Fin 16) (hI : (img V b).Valid) (m : Fin 32) (a : Fin 8400) : r15 V (ix3 b m a) = 1#1 ↔ Inside (img V b) m a := by
  have h : r15 V = cmpf .ogt (r13 V) (r14 V) := eq2 V 17 rfl
  rw [h, cmp_lt, eps, least_margin]
  obtain ⟨g, hg⟩ := hI.gt m
  obtain ⟨e, -, he⟩ := lit_eps
  have ht : Ideal.ofBits .f32 0x7F800000#32 = ⊤ := by simp [Ideal.ofBits, Ideal.ieee]
  rw [ht, he]
  refine (Finset.lt_fold_min (c := (e : EReal))).trans ?_
  simp only [margin, hg]
  have t : (e : EReal) < ⊤ := EReal.coe_lt_top e
  constructor
  · rintro ⟨-, q⟩
    have q0 := q 0 (Finset.mem_univ _)
    have q1 := q 1 (Finset.mem_univ _)
    have q2 := q 2 (Finset.mem_univ _)
    have q3 := q 3 (Finset.mem_univ _)
    rw [dif_pos (by decide), (lt_sub_real e _ _).1] at q0 q1
    rw [dif_neg (by decide), (lt_sub_real e _ _).2] at q2 q3
    unfold Inside
    rw [he, hg]
    exact ⟨q0, q1, q2, q3⟩
  · intro q
    unfold Inside at q
    rw [he, hg] at q
    refine ⟨t, fun k _ => ?_⟩
    fin_cases k
    · exact (lt_sub_real e _ _).1.mpr q.1
    · exact (lt_sub_real e _ _).1.mpr q.2.1
    · exact (lt_sub_real e _ _).2.mpr q.2.2.1
    · exact (lt_sub_real e _ _).2.mpr q.2.2.2

theorem marked (b : Fin 16) (m : Fin 32) (a : Fin 8400) : r20 V (ix3 b m a) = BitVec.ofBool (decide (FloatOps.uitofp FTy.f32 (r15 V (ix3 b m a)) * A5 V (ix3 b m 0) ≠ (0 : EReal))) := by
  unfold r20
  rw [eq2 V 23 rfl, eq1 V 22 rfl, eq0 V 21 rfl, eq2 V 20 rfl, eq1 V 19 rfl, eq1 V 18 rfl]
  rw [show val V main_arg5 = A5 V from rfl]
  rw [show val V main_v15 = r15 V from rfl]
  generalize A5 V = xA5
  generalize r15 V = xr15
  clean_types
  pointwise []

/-- The flag of a pair that counts. -/
theorem on (b : Fin 16) (hI : (img V b).Valid) (m : Fin 32) (a : Fin 8400) : r20 V (ix3 b m a) = 1#1 ↔ On (img V b) m a := by
  rw [marked, ofBool_one, flagU]
  unfold On
  by_cases h : Inside (img V b) m a
  · rw [if_pos ((inside V b hI m a).mpr h), one_mul]
    exact ⟨fun q => ⟨h, q⟩, fun q => q.2⟩
  · rw [if_neg fun q => h ((inside V b hI m a).mp q), zero_mul]
    exact ⟨fun q => absurd rfl q, fun q => absurd q.1 h⟩

/-- The zero word. -/
theorem zero : Ideal.ofBits .f32 0#32 = 0 := by
  simp [Ideal.ofBits, Ideal.ieee]

/-- A position that is not negative stays as it is. -/
theorem wrap (x y : BitVec 32) (h : x.toNat < 2147483648) : Scalar.select (IntOp.cmpi .slt x 0#32) y x = x := by
  have : IntOp.cmpi .slt x 0#32 ≠ 1#1 := by
    show BitVec.ofBool (x.slt 0#32) ≠ 1#1
    have : x.slt 0#32 = false := by
      rw [Bool.eq_false_iff]
      intro q
      rw [BitVec.slt_iff_toInt_lt, BitVec.toInt_eq_toNat_of_lt (by omega)] at q
      have : (0#32 : BitVec 32).toInt = 0 := by decide
      omega
    rw [this]; decide
  exact if_neg this

/-- The class of a box, ready to be looked up. -/
theorem labels (b : Fin 16) (hI : (img V b).Valid) (m : Fin 32) : r26 V (ix2 b m) = A3 V (ix3 b m 0) := by
  have hv : (A3 V (ix3 b m 0)).toNat < 80 := hI.lab m
  have h : r21 V (ix2 b m) = A3 V (ix3 b m 0) := by
    have h : r21 V = shapeCast S16x32 (A3 V) (by decide) := eqR V 24 rfl
    rw [h]
    generalize A3 V = x
    pointwise []
  generalize A3 V (ix3 b m 0) = l at h hv ⊢
  unfold r26
  rw [eq3 V 31 rfl, eq2 V 30 rfl, eq1 V 29 rfl, eq0 V 28 rfl, eq2 V 27 rfl, eq1 V 26 rfl, eq0 V 25 rfl]
  rw [show val V main_v21 = r21 V from rfl]
  generalize r21 V = xr21 at h ⊢
  clean_types
  pointwise [h]
  exact wrap _ _ (by omega)

/-- The scores of a box's class. -/
theorem table (b : Fin 16) (hI : (img V b).Valid) (m : Fin 32) (a : Fin 8400) :
    r28 V (ix3 b a m) = (img V b).ps a (cls (img V b) m) := by
  have hv : (A3 V (ix3 b m 0)).toNat < 80 := hI.lab m
  have h := labels V b hI m
  refine Eq.trans ?_ (congrArg (fun c => A0 V (ix3 b a c)) (Fin.ext (Nat.mod_eq_of_lt hv).symm : (⟨_, hv⟩ : Fin 80) = cls (img V b) m))
  generalize A3 V (ix3 b m 0) = l at h hv ⊢
  unfold r28
  rw [eq2 V 33 rfl, eq1 V 32 rfl]
  rw [show val V main_arg0 = A0 V from rfl]
  rw [show val V main_v26 = r26 V from rfl]
  generalize A0 V = xA0 at h ⊢
  generalize r26 V = xr26 at h ⊢
  refine gatherA _ _ b a m ⟨l.toNat, hv⟩ ?_
  rw [BitVec.ofNat_toNat, BitVec.setWidth_eq]
  clean_types
  pointwise [h]

/-- The scores that count. -/
theorem scored (b : Fin 16) (m : Fin 32) (a : Fin 8400) :
    r30 V (ix3 b m a) = if r20 V (ix3 b m a) = 1#1 then r28 V (ix3 b a m) else (0 : EReal) := by
  unfold r30
  rw [eq3 V 38 rfl, eq1 V 37 rfl, eq1 V 36 rfl, eq0 V 35 rfl, eq1 V 34 rfl]
  rw [show val V main_v20 = r20 V from rfl]
  rw [show val V main_v28 = r28 V from rfl]
  try simp -implicitDefEqProofs only [TRef.toBuf, TRef.ofBuf, cast_cast, cast_eq]
  generalize r20 V = xr20
  generalize r28 V = xr28
  clean_types
  have z : (id (constant (F := Ideal) S_ .f32 0#32) : FVec Ideal S_ .f32) ix0 = (0 : EReal) := zero
  pointwise []
  rw [z]
  rfl

end Cert.Proof.Ref
end
-- ==== Proof.RefFit.lean ====
/- The fits of the reference, and the anchors a box chooses. -/
module

public import proofs.«01_k».proof.Proof.RefMask
public import proofs.«01_k».proof.Proof.Spec
public import proofs.«01_k».proof.Proof.Arg
public import Idealize.ShloMosaic.Lib.Pointwise
public import Idealize.ShloMosaic.Lib.Tactic.CleanTypes

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Arg Cert.Proof.Rank

attribute [local instance] Cert.ReferenceIdeal.Gen.facts

variable (V : Valuation τ sig (Elt Ideal))

/-- Sums, products and quotients, point by point. -/
theorem add_at {s : Shape} (x y : FVec Ideal s .f32) (i : s.Idx) : addf x y i = x i + (y i : EReal) := rfl
theorem mul_at {s : Shape} (x y : FVec Ideal s .f32) (i : s.Idx) : mulf x y i = x i * (y i : EReal) := rfl
theorem div_at {s : Shape} (x y : FVec Ideal s .f32) (i : s.Idx) : Host.divf x y i = Ideal.div (x i) (y i) := rfl

/-- The overlaps that count. -/
theorem step286 (b : Fin 16) (m : Fin 32) (a : Fin 8400) :
    r286 V (ix3 b m a) = if r20 V (ix3 b m a) = 1#1 then max (r283 V (ix3 b m a)) 0 else (0 : EReal) := by
  unfold r286
  rw [eq3 V 337 rfl, eq1 V 336 rfl, eq1 V 335 rfl, eq0 V 334 rfl, eq2 V 333 rfl, eq1 V 332 rfl, eq0 V 331 rfl]
  rw [show val V main_v20 = r20 V from rfl]
  rw [show val V main_v283 = r283 V from rfl]
  try simp -implicitDefEqProofs only [TRef.toBuf, TRef.ofBuf, cast_cast, cast_eq]
  generalize r20 V = xr20
  generalize r283 V = xr283
  clean_types
  have z : (id (constant (F := Ideal) S_ .f32 0#32) : FVec Ideal S_ .f32) ix0 = (0 : EReal) := zero
  pointwise []
  rw [z]
  rfl

/-- How well a pair fits. -/
theorem step291 (b : Fin 16) (m : Fin 32) (a : Fin 8400) :
    r291 V (ix3 b m a) = Ideal.pow (r30 V (ix3 b m a)) 1 * Ideal.pow (r286 V (ix3 b m a)) (Ideal.ofBits .f32 0x40C00000#32) := by
  unfold r291
  rw [eq2 V 344 rfl, eq2 V 343 rfl, eq1 V 342 rfl, eq0 V 341 rfl, eq2 V 340 rfl, eq1 V 339 rfl, eq0 V 338 rfl]
  rw [show val V main_v286 = r286 V from rfl]
  rw [show val V main_v30 = r30 V from rfl]
  generalize r286 V = xr286
  generalize r30 V = xr30
  clean_types
  pointwise []

/-- The thirteen best anchors of a box. -/
theorem stepIdx (b : Fin 16) (m : Fin 32) (k : Fin 13) :
    ∃ p : Fin 8400, rIdx V (ix3 b m k) = BitVec.ofNat 32 p.1 ∧ rank (fun a => r291 V (ix3 b m a)) p = k.1 := by
  unfold rIdx
  rw [eq1 V 346 rfl]
  rw [show val V main_v291 = r291 V from rfl]
  generalize r291 V = xr291
  exact topk _ _ b m k

/-- The chosen anchors of the marked boxes. -/
theorem step295 (b : Fin 16) (m : Fin 32) (k : Fin 13) :
    r295 V (ix3 b m k) = if A5 V (ix3 b m 0) ≠ (0 : EReal) then rIdx V (ix3 b m k) else 0#32 := by
  unfold r295
  rw [eq3 V 354 rfl, eq1 V 353 rfl, eq1 V 352 rfl, eq0 V 351 rfl, eq1 V 350 rfl, eq2 V 349 rfl, eq1 V 348 rfl, eq0 V 347 rfl]
  rw [show val V main_arg5 = A5 V from rfl]
  rw [show val V main_indices = rIdx V from rfl]
  try simp -implicitDefEqProofs only [TRef.toBuf, TRef.ofBuf, cast_cast, cast_eq]
  generalize A5 V = xA5
  generalize rIdx V = xrIdx
  clean_types
  pointwise []
  rfl

/-- The chosen anchors, a row a box. -/
theorem step296 (b : Fin 16) (m : Fin 32) (k : Fin 13) :
    r296 V (ix2 (row b m) k) = r295 V (ix3 b m k) := by
  have h : r296 V = shapeCast S512x13 (r295 V) (by decide) := eqR V 355 rfl
  rw [h]
  generalize r295 V = x
  pointwise []
  rw [row_div, row_mod]

end Cert.Proof.Ref
end
-- ==== Proof.RefCount.lean ====
/- The reference counts the choices. -/
module

public import proofs.«01_k».proof.Proof.RefFit
public import proofs.«01_k».proof.Proof.Spec
public import proofs.«01_k».proof.Proof.Arg
public import Idealize.ShloMosaic.Lib.Pointwise
public import Idealize.ShloMosaic.Lib.Tactic.CleanTypes

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Arg Cert.Proof.Rank

attribute [local instance] Cert.ReferenceIdeal.Gen.facts

variable (V : Valuation τ sig (Elt Ideal))

/-- The row of a chosen anchor. -/
theorem step313a (r : Fin 512) (k : Fin 13) :
    r313 V (ix3 r k 0) = BitVec.ofNat 32 r.1 := by
  unfold r313
  rw [eq2 V 377 rfl, eq1 V 376 rfl, eq1 V 375 rfl, eq1 V 374 rfl, eq3 V 373 rfl, eq2 V 372 rfl, eq1 V 371 rfl, eq0 V 370 rfl, eq2 V 369 rfl, eq1 V 368 rfl, eq0 V 367 rfl, eq3 V 366 rfl]
  rw [eq2 V 365 rfl, eq1 V 364 rfl, eq0 V 363 rfl, eq2 V 362 rfl, eq1 V 361 rfl, eq0 V 360 rfl, eq1 V 359 rfl, eq0 V 358 rfl]
  rw [show val V main_v296 = r296 V from rfl]
  generalize r296 V = xr296
  clean_types
  pointwise []
  exact wrap _ _ (by have := r.2; rw [BitVec.toNat_ofNat]; omega)

/-- The column of a chosen anchor. -/
theorem step313b (r : Fin 512) (k : Fin 13) (h : (r296 V (ix2 r k)).toNat < 8400) :
    r313 V (ix3 r k 1) = r296 V (ix2 r k) := by
  unfold r313
  rw [eq2 V 377 rfl, eq1 V 376 rfl, eq1 V 375 rfl, eq1 V 374 rfl, eq3 V 373 rfl, eq2 V 372 rfl, eq1 V 371 rfl, eq0 V 370 rfl, eq2 V 369 rfl, eq1 V 368 rfl, eq0 V 367 rfl, eq3 V 366 rfl]
  rw [eq2 V 365 rfl, eq1 V 364 rfl, eq0 V 363 rfl, eq2 V 362 rfl, eq1 V 361 rfl, eq0 V 360 rfl, eq1 V 359 rfl, eq0 V 358 rfl]
  rw [show val V main_v296 = r296 V from rfl]
  generalize r296 V = xr296 at h ⊢
  clean_types
  pointwise []
  exact wrap _ _ (by omega)

/-- Nothing chosen yet. -/
theorem step297 (i : S512x8400.Idx) : r297 V i = 0#32 := by
  unfold r297
  rw [eq1 V 357 rfl, eq0 V 356 rfl]
  rfl

/-- Every choice counts one. -/
theorem step314 (i : S512x13.Idx) : r314 V i = 1#32 := by
  unfold r314
  rw [eq1 V 379 rfl, eq0 V 378 rfl]
  rfl

/-- How often an anchor is chosen by a box. -/
theorem step315 (p : Fin 512 → Fin 13 → Fin 8400) (h0 : ∀ r k, r313 V (ix3 r k 0) = BitVec.ofNat 32 r.1)
    (h1 : ∀ r k, r313 V (ix3 r k 1) = BitVec.ofNat 32 (p r k).1) (r : Fin 512) (a : Fin 8400) :
    r315 V (ix2 r a) = BitVec.ofNat 32 (∑ k : Fin 13, if p r k = a then 1 else 0) := by
  have e0 := step297 V
  have e1 := step314 V
  unfold r315
  rw [eq3 V 380 rfl]
  rw [show val V main_v297 = r297 V from rfl]
  rw [show val V main_v313 = r313 V from rfl]
  rw [show val V main_v314 = r314 V from rfl]
  generalize r297 V = xr297 at h0 h1 e0 e1 ⊢
  generalize r313 V = xr313 at h0 h1 e0 e1 ⊢
  generalize r314 V = xr314 at h0 h1 e0 e1 ⊢
  exact scattered _ _ _ e0 e1 p h0 h1 r a

/-- An anchor chosen more than once does not count. -/
theorem step318 (r : Fin 512) (a : Fin 8400) :
    r318 V (ix2 r a) = Scalar.select (IntOp.cmpi .sgt (r315 V (ix2 r a)) 1#32) 0#32 (r315 V (ix2 r a)) := by
  unfold r318
  rw [eq3 V 387 rfl, eq1 V 386 rfl, eq1 V 385 rfl, eq0 V 384 rfl, eq2 V 383 rfl, eq1 V 382 rfl, eq0 V 381 rfl]
  rw [show val V main_v315 = r315 V from rfl]
  try simp -implicitDefEqProofs only [TRef.toBuf, TRef.ofBuf, cast_cast, cast_eq]
  generalize r315 V = xr315
  clean_types
  pointwise []
  rfl

/-- The counts, box by box. -/
theorem step319 (b : Fin 16) (m : Fin 32) (a : Fin 8400) : r319 V (ix3 b m a) = r318 V (ix2 (row b m) a) := by
  unfold r319
  rw [eqR V 388 rfl]
  rw [show val V main_v318 = r318 V from rfl]
  generalize r318 V = xr318
  show shapeCast S16x32x8400 xr318 (by decide) (ix3 b m a) = _
  pointwise []
  rfl

/-- The counts as numbers. -/
theorem step320 (b : Fin 16) (m : Fin 32) (a : Fin 8400) : r320 V (ix3 b m a) = (FloatOps.sitofp .f32 (r319 V (ix3 b m a)) : Ideal .f32) := by
  unfold r320
  rw [eq1 V 389 rfl]
  rw [show val V main_v319 = r319 V from rfl]
  generalize r319 V = xr319
  clean_types
  pointwise []

end Cert.Proof.Ref
end
-- ==== Proof.RefMark.lean ====
/- The reference marks the pairs. -/
module

public import proofs.«01_k».proof.Proof.RefFit
public import proofs.«01_k».proof.Proof.Spec
public import proofs.«01_k».proof.Proof.Arg
public import Idealize.ShloMosaic.Lib.Pointwise
public import Idealize.ShloMosaic.Lib.Tactic.CleanTypes

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Arg Cert.Proof.Rank

attribute [local instance] Cert.ReferenceIdeal.Gen.facts

variable (V : Valuation τ sig (Elt Ideal))

/-- The marks. -/
theorem step324 (b : Fin 16) (m : Fin 32) (a : Fin 8400) : r324 V (ix3 b m a) = r320 V (ix3 b m a) * FloatOps.uitofp .f32 (r15 V (ix3 b m a)) * A5 V (ix3 b m 0) := by
  unfold r324
  rw [eq2 V 393 rfl, eq1 V 392 rfl, eq2 V 391 rfl, eq1 V 390 rfl]
  rw [show val V main_arg5 = A5 V from rfl]
  rw [show val V main_v15 = r15 V from rfl]
  rw [show val V main_v320 = r320 V from rfl]
  generalize A5 V = xA5
  generalize r15 V = xr15
  generalize r320 V = xr320
  clean_types
  pointwise []

/-- How many boxes an anchor is marked for. -/
theorem step325 (b : Fin 16) (a : Fin 8400) : r325 V (ix2 b a) = ∑ m, (r324 V (ix3 b m a) : EReal) := by
  unfold r325
  rw [eq2 V 395 rfl, eq0 V 394 rfl]
  rw [show val V main_v324 = r324 V from rfl]
  generalize r324 V = xr324
  clean_types
  pointwise []

/-- How many boxes an anchor has in the end. -/
theorem step333 (b : Fin 16) (a : Fin 8400) : r333 V (ix2 b a) = ∑ m, (r332 V (ix3 b m a) : EReal) := by
  unfold r333
  rw [eq2 V 414 rfl, eq0 V 413 rfl]
  rw [show val V main_v332 = r332 V from rfl]
  generalize r332 V = xr332
  clean_types
  pointwise []

/-- The box an anchor overlaps most. -/
theorem step330 (b : Fin 16) (a : Fin 8400) : r330 V (ix2 b a) = BitVec.ofNat 32 (first fun m => r286 V (ix3 b m a)).1 := by
  unfold r330
  rw [eq4 V 405 rfl, eq0 V 403 rfl, eq0 V 402 rfl, eq0 V 401 rfl]
  rw [show val V main_v286 = r286 V from rfl]
  try simp -implicitDefEqProofs only [TRef.toBuf, TRef.ofBuf, cast_cast, cast_eq]
  generalize r286 V = xr286
  clean_types
  exact argmax _ _ _ _ _ _ (fun _ _ _ => rfl) lit_bot rfl b a

/-- The box an anchor is given. -/
theorem step334 (b : Fin 16) (a : Fin 8400) : r334 V (ix2 b a) = BitVec.ofNat 32 (first fun m => r332 V (ix3 b m a)).1 := by
  unfold r334
  rw [eq4 V 419 rfl, eq0 V 417 rfl, eq0 V 416 rfl, eq0 V 415 rfl]
  rw [show val V main_v332 = r332 V from rfl]
  try simp -implicitDefEqProofs only [TRef.toBuf, TRef.ofBuf, cast_cast, cast_eq]
  generalize r332 V = xr332
  clean_types
  exact argmax _ _ _ _ _ _ (fun _ _ _ => rfl) lit_bot rfl b a

/-- The marks with an anchor of several boxes given to one. -/
theorem step332 (b : Fin 16) (m : Fin 32) (a : Fin 8400) :
    r332 V (ix3 b m a) = if (1 : EReal) < r325 V (ix2 b a) then FloatOps.uitofp .f32 (IntOp.cmpi .eq (r330 V (ix2 b a)) (BitVec.ofNat 32 m.1)) else r324 V (ix3 b m a) := by
  unfold r332
  rw [eq3 V 412 rfl, eq1 V 411 rfl, eq2 V 410 rfl, eq1 V 409 rfl, eq1 V 408 rfl, eq0 V 407 rfl, eq1 V 406 rfl, eq1 V 400 rfl, eq2 V 399 rfl, eq1 V 398 rfl, eq0 V 397 rfl, eq1 V 396 rfl]
  rw [show val V main_v324 = r324 V from rfl]
  rw [show val V main_v325 = r325 V from rfl]
  rw [show val V main_v330 = r330 V from rfl]
  try simp -implicitDefEqProofs only [TRef.toBuf, TRef.ofBuf, cast_cast, cast_eq]
  generalize r324 V = xr324
  generalize r325 V = xr325
  generalize r330 V = xr330
  clean_types
  pointwise []

end Cert.Proof.Ref
end
-- ==== Proof.RefPick.lean ====
/- The reference looks up the boxes and the labels. -/
module

public import proofs.«01_k».proof.Proof.RefFit
public import proofs.«01_k».proof.Proof.Spec
public import proofs.«01_k».proof.Proof.Arg
public import Idealize.ShloMosaic.Lib.Pointwise
public import Idealize.ShloMosaic.Lib.Tactic.CleanTypes

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Arg Cert.Proof.Rank

attribute [local instance] Cert.ReferenceIdeal.Gen.facts

variable (V : Valuation τ sig (Elt Ideal))

/-- The row of the box an anchor is given. -/
theorem step340 (b : Fin 16) (a : Fin 8400) :
    r340 V (ix2 b a) = IntOp.addi (r334 V (ix2 b a)) (IntOp.muli (BitVec.ofNat 32 b.1) 32#32) := by
  unfold r340
  rw [eq2 V 426 rfl, eq1 V 425 rfl, eq2 V 424 rfl, eq1 V 423 rfl, eq0 V 422 rfl, eq1 V 421 rfl, eq0 V 420 rfl]
  rw [show val V main_v334 = r334 V from rfl]
  generalize r334 V = xr334
  clean_types
  pointwise []

/-- The labels, a row a box. -/
theorem step341 (b : Fin 16) (m : Fin 32) : r341 V (ix1 (row b m)) = A3 V (ix3 b m 0) := by
  have h : r341 V = shapeCast S512 (A3 V) (by decide) := eqR V 427 rfl
  rw [h]
  generalize A3 V = x
  pointwise []
  rw [row_div, row_mod]

/-- The boxes, a row a box. -/
theorem step351 (b : Fin 16) (m : Fin 32) (k : Fin 4) : r351 V (ix2 (row b m) k) = A4 V (ix3 b m k) := by
  have h : r351 V = shapeCast S512x4 (A4 V) (by decide) := eqR V 440 rfl
  rw [h]
  generalize A4 V = x
  pointwise []
  rw [row_div, row_mod]

/-- The row of a label to look up. -/
theorem step347 (b : Fin 16) (a : Fin 8400) (h : (r340 V (ix2 b a)).toNat < 512) : r347 V (ix3 b a 0) = r340 V (ix2 b a) := by
  unfold r347
  rw [eq1 V 435 rfl, eq3 V 434 rfl, eq2 V 433 rfl, eq1 V 432 rfl, eq0 V 431 rfl, eq2 V 430 rfl, eq1 V 429 rfl, eq0 V 428 rfl]
  rw [show val V main_v340 = r340 V from rfl]
  generalize r340 V = xr340 at h ⊢
  clean_types
  pointwise []
  exact wrap _ _ (by omega)

/-- The row of a box to look up. -/
theorem step357 (b : Fin 16) (a : Fin 8400) (h : (r340 V (ix2 b a)).toNat < 512) : r357 V (ix3 b a 0) = r340 V (ix2 b a) := by
  unfold r357
  rw [eq1 V 448 rfl, eq3 V 447 rfl, eq2 V 446 rfl, eq1 V 445 rfl, eq0 V 444 rfl, eq2 V 443 rfl, eq1 V 442 rfl, eq0 V 441 rfl]
  rw [show val V main_v340 = r340 V from rfl]
  generalize r340 V = xr340 at h ⊢
  clean_types
  pointwise []
  exact wrap _ _ (by omega)

/-- The label looked up. -/
theorem step348 (b : Fin 16) (a : Fin 8400) (r : Fin 512) (h : r347 V (ix3 b a 0) = BitVec.ofNat 32 r.1) : r348 V (ix2 b a) = r341 V (ix1 r) := by
  unfold r348
  rw [eq2 V 436 rfl]
  rw [show val V main_v341 = r341 V from rfl]
  rw [show val V main_v347 = r347 V from rfl]
  generalize r341 V = xr341 at h ⊢
  generalize r347 V = xr347 at h ⊢
  exact gatherB _ _ b a r h

/-- The label of the box an anchor is given. -/
theorem step350 (b : Fin 16) (a : Fin 8400) : r350 V (ix2 b a) = IntOp.maxsi (r348 V (ix2 b a)) 0#32 := by
  unfold r350
  rw [eq2 V 439 rfl, eq1 V 438 rfl, eq0 V 437 rfl]
  rw [show val V main_v348 = r348 V from rfl]
  generalize r348 V = xr348
  clean_types
  pointwise []

/-- The box looked up. -/
theorem step358 (b : Fin 16) (a : Fin 8400) (k : Fin 4) (r : Fin 512) (h : r357 V (ix3 b a 0) = BitVec.ofNat 32 r.1) : r358 V (ix3 b a k) = r351 V (ix2 r k) := by
  unfold r358
  rw [eq2 V 449 rfl]
  rw [show val V main_v351 = r351 V from rfl]
  rw [show val V main_v357 = r357 V from rfl]
  generalize r351 V = xr351 at h ⊢
  generalize r357 V = xr357 at h ⊢
  exact gatherC _ _ b a k r h

/-- The class of the label. -/
theorem step359 (b : Fin 16) (a : Fin 8400) (c : Fin 80) : r359 V (ix3 b a c) = (FloatOps.uitofp .f32 (IntOp.cmpi .eq (r350 V (ix2 b a)) (BitVec.ofNat 32 c.1)) : Ideal .f32) := by
  unfold r359
  rw [eq1 V 455 rfl, eq2 V 454 rfl, eq1 V 453 rfl, eq1 V 452 rfl, eq0 V 451 rfl, eq1 V 450 rfl]
  rw [show val V main_v350 = r350 V from rfl]
  try simp -implicitDefEqProofs only [TRef.toBuf, TRef.ofBuf, cast_cast, cast_eq]
  generalize r350 V = xr350
  clean_types
  pointwise []

end Cert.Proof.Ref
end
-- ==== Proof.RefNorm.lean ====
/- The reference scales the scores. -/
module

public import proofs.«01_k».proof.Proof.RefFit
public import proofs.«01_k».proof.Proof.Spec
public import proofs.«01_k».proof.Proof.Arg
public import Idealize.ShloMosaic.Lib.Pointwise
public import Idealize.ShloMosaic.Lib.Tactic.CleanTypes

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Arg Cert.Proof.Rank

attribute [local instance] Cert.ReferenceIdeal.Gen.facts

variable (V : Valuation τ sig (Elt Ideal))

/-- The class of an anchor that has a box. -/
theorem step364 (b : Fin 16) (a : Fin 8400) (c : Fin 80) : r364 V (ix3 b a c) = if (0 : EReal) < r333 V (ix2 b a) then r359 V (ix3 b a c) else (0 : EReal) := by
  unfold r364
  rw [eq3 V 464 rfl, eq1 V 463 rfl, eq1 V 462 rfl, eq0 V 461 rfl, eq2 V 460 rfl, eq1 V 459 rfl, eq0 V 458 rfl, eq1 V 457 rfl, eq1 V 456 rfl]
  rw [show val V main_v333 = r333 V from rfl]
  rw [show val V main_v359 = r359 V from rfl]
  try simp -implicitDefEqProofs only [TRef.toBuf, TRef.ofBuf, cast_cast, cast_eq]
  generalize r333 V = xr333
  generalize r359 V = xr359
  clean_types
  have z : (id (constant (F := Ideal) S_ .f32 0#32) : FVec Ideal S_ .f32) ix0 = (0 : EReal) := zero
  pointwise []
  rw [z]

/-- The fits that remain. -/
theorem step365 (b : Fin 16) (m : Fin 32) (a : Fin 8400) : r365 V (ix3 b m a) = r291 V (ix3 b m a) * r332 V (ix3 b m a) := by
  unfold r365
  rw [eq2 V 465 rfl]
  rw [show val V main_v291 = r291 V from rfl]
  rw [show val V main_v332 = r332 V from rfl]
  generalize r291 V = xr291
  generalize r332 V = xr332
  clean_types
  pointwise []

/-- The overlaps that remain. -/
theorem step368 (b : Fin 16) (m : Fin 32) (a : Fin 8400) : r368 V (ix3 b m a) = r286 V (ix3 b m a) * r332 V (ix3 b m a) := by
  unfold r368
  rw [eq2 V 469 rfl]
  rw [show val V main_v286 = r286 V from rfl]
  rw [show val V main_v332 = r332 V from rfl]
  generalize r286 V = xr286
  generalize r332 V = xr332
  clean_types
  pointwise []

/-- The best fit of a box. -/
theorem step366 (b : Fin 16) (m : Fin 32) : r366 V (ix2 b m) = Finset.univ.fold max (⊥ : EReal) fun a => r365 V (ix3 b m a) := by
  rw [← lit_bot]
  unfold r366
  rw [eq2 V 467 rfl, eq0 V 466 rfl]
  rw [show val V main_v365 = r365 V from rfl]
  generalize r365 V = xr365
  clean_types
  pointwise []

/-- The best overlap of a box. -/
theorem step369 (b : Fin 16) (m : Fin 32) : r369 V (ix2 b m) = Finset.univ.fold max (⊥ : EReal) fun a => r368 V (ix3 b m a) := by
  rw [← lit_bot]
  unfold r369
  rw [eq2 V 471 rfl, eq0 V 470 rfl]
  rw [show val V main_v368 = r368 V from rfl]
  generalize r368 V = xr368
  clean_types
  pointwise []

/-- The weight of an anchor. -/
theorem step377 (b : Fin 16) (a : Fin 8400) : r377 V (ix2 b a) = Finset.univ.fold max (⊥ : EReal) fun m => r376 V (ix3 b m a) := by
  rw [← lit_bot]
  unfold r377
  rw [eq2 V 481 rfl, eq0 V 480 rfl]
  rw [show val V main_v376 = r376 V from rfl]
  generalize r376 V = xr376
  clean_types
  pointwise []

/-- The best fit of a box, a row a box. -/
theorem step367 (b : Fin 16) (m : Fin 32) : r367 V (ix3 b m 0) = r366 V (ix2 b m) := by
  unfold r367
  rw [eq1 V 468 rfl]
  rw [show val V main_v366 = r366 V from rfl]
  generalize r366 V = xr366
  clean_types
  pointwise []

/-- The best overlap of a box, at each anchor. -/
theorem step371 (b : Fin 16) (m : Fin 32) (a : Fin 8400) : r371 V (ix3 b m a) = r369 V (ix2 b m) := by
  unfold r371
  rw [eq1 V 473 rfl, eq1 V 472 rfl]
  rw [show val V main_v369 = r369 V from rfl]
  generalize r369 V = xr369
  clean_types
  pointwise []

end Cert.Proof.Ref
end
-- ==== Proof.RefLast.lean ====
/- The reference scales the scores, to the results. -/
module

public import proofs.«01_k».proof.Proof.RefFit
public import proofs.«01_k».proof.Proof.Spec
public import proofs.«01_k».proof.Proof.Arg
public import Idealize.ShloMosaic.Lib.Pointwise
public import Idealize.ShloMosaic.Lib.Tactic.CleanTypes

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Arg Cert.Proof.Rank

attribute [local instance] Cert.ReferenceIdeal.Gen.facts

variable (V : Valuation τ sig (Elt Ideal))

/-- The small number added. -/
theorem step373 (b : Fin 16) (m : Fin 32) : r373 V (ix3 b m 0) = Ideal.ofBits .f32 0x3089705F#32 := by
  unfold r373
  rw [eq1 V 476 rfl, eq0 V 475 rfl]
  clean_types
  pointwise []

/-- The divisor at each anchor. -/
theorem step375 (b : Fin 16) (m : Fin 32) (a : Fin 8400) : r375 V (ix3 b m a) = r374 V (ix3 b m 0) := by
  unfold r375
  rw [eq1 V 478 rfl]
  rw [show val V main_v374 = r374 V from rfl]
  generalize r374 V = xr374
  clean_types
  pointwise []

/-- The divisor. -/
theorem step374 (b : Fin 16) (m : Fin 32) : r374 V (ix3 b m 0) = r367 V (ix3 b m 0) + (r373 V (ix3 b m 0) : EReal) := by
  have h : r374 V = addf (r367 V) (r373 V) := eq2 V 477 rfl
  rw [h]
  exact add_at _ _ _

/-- The dividend. -/
theorem step372 (b : Fin 16) (m : Fin 32) (a : Fin 8400) : r372 V (ix3 b m a) = r365 V (ix3 b m a) * (r371 V (ix3 b m a) : EReal) := by
  have h : r372 V = mulf (r365 V) (r371 V) := eq2 V 474 rfl
  rw [h]
  exact mul_at _ _ _

/-- The weight of a pair. -/
theorem step376 (b : Fin 16) (m : Fin 32) (a : Fin 8400) : r376 V (ix3 b m a) = Ideal.div (r372 V (ix3 b m a)) (r375 V (ix3 b m a)) := by
  have h : r376 V = Host.divf (r372 V) (r375 V) := eq2 V 479 rfl
  rw [h]
  exact div_at _ _ _

/-- The target scores. -/
theorem step380 (b : Fin 16) (a : Fin 8400) (c : Fin 80) : r380 V (ix3 b a c) = r364 V (ix3 b a c) * (r377 V (ix2 b a) : EReal) := by
  have h : r380 V = mulf (r364 V) (broadcastInDim S16x8400x80 ![0, 1, 2] (by decide) (broadcastInDim S16x8400x1 ![0, 1] (by decide) (r377 V))) := by
    unfold r380
    rw [eq2 V 484 rfl, eq1 V 483 rfl, eq1 V 482 rfl]
    rfl
  rw [h, mul_at]
  refine congrArg (r364 V (ix3 b a c) * ·) ?_
  generalize r377 V = x
  pointwise []

/-- The anchors that have a box. -/
theorem step383 (b : Fin 16) (a : Fin 8400) : r383 V (ix2 b a) = BitVec.ofBool (decide (r333 V (ix2 b a) ≠ (0 : EReal))) := by
  unfold r383
  rw [eq1 V 488 rfl, eq2 V 487 rfl, eq1 V 486 rfl, eq0 V 485 rfl]
  rw [show val V main_v333 = r333 V from rfl]
  generalize r333 V = xr333
  clean_types
  show cmpf .une xr333 _ (ix2 b a) = _
  pointwise []

end Cert.Proof.Ref
end
-- ==== Proof.RefScore.lean ====
/- The score of a pair, in the reference. -/
module

public import proofs.«01_k».proof.Proof.RefEq
public import proofs.«01_k».proof.Proof.Spec
public import proofs.«01_k».proof.Proof.Arg
public import Idealize.ShloMosaic.Lib.Pointwise
public import Idealize.ShloMosaic.Lib.Tactic.CleanTypes

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Arg Cert.Proof.Rank

attribute [local instance] Cert.ReferenceIdeal.Gen.facts

variable (V : Valuation τ sig (Elt Ideal))

/-- The ratio of areas. -/
theorem iouR (b : Fin 16) (m : Fin 32) (a : Fin 8400) : r76 V (ix4 b m a 0) = iou ((img V b).gt m) ((img V b).pb a) := by
  unfold r76
  rw [eq2 V 89 rfl, eq2 V 88 rfl, eq1 V 87 rfl, eq0 V 86 rfl, eq2 V 85 rfl, eq2 V 84 rfl, eq1 V 83 rfl, eq1 V 82 rfl, eq2 V 81 rfl, eq2 V 80 rfl, eq2 V 79 rfl, eq2 V 78 rfl]
  rw [eq1 V 77 rfl, eq0 V 76 rfl, eq2 V 75 rfl, eq2 V 74 rfl, eq1 V 73 rfl, eq1 V 72 rfl, eq2 V 71 rfl, eq1 V 70 rfl, eq1 V 69 rfl, eq2 V 68 rfl, eq1 V 67 rfl, eq0 V 66 rfl]
  rw [eq2 V 65 rfl, eq2 V 64 rfl, eq1 V 63 rfl, eq1 V 62 rfl, eq2 V 61 rfl, eq1 V 60 rfl, eq1 V 59 rfl, eq2 V 58 rfl, eq1 V 57 rfl, eq0 V 56 rfl, eq2 V 55 rfl, eq2 V 54 rfl]
  rw [eq2 V 53 rfl, eq1 V 52 rfl, eq0 V 51 rfl, eq2 V 50 rfl, eq2 V 49 rfl, eq1 V 48 rfl, eq1 V 47 rfl, eq1 V 46 rfl, eq1 V 45 rfl, eq1 V 44 rfl, eq1 V 43 rfl, eq1 V 42 rfl]
  rw [eq1 V 41 rfl, eq1 V 40 rfl, eq1 V 39 rfl]
  rw [show val V main_arg1 = A1 V from rfl]
  rw [show val V main_arg4 = A4 V from rfl]
  show _ = iou (fun k => A4 V (ix3 b m k)) (fun k => A1 V (ix3 b a k))
  generalize A1 V = xA1
  generalize A4 V = xA4
  pointwise []
  rfl

/-- The squared diagonal. -/
theorem diagR (b : Fin 16) (m : Fin 32) (a : Fin 8400) : r95 V (ix4 b m a 0) = diag ((img V b).gt m) ((img V b).pb a) := by
  unfold r95
  rw [eq2 V 109 rfl, eq1 V 108 rfl, eq0 V 107 rfl, eq2 V 106 rfl, eq2 V 105 rfl, eq2 V 104 rfl, eq2 V 103 rfl, eq2 V 102 rfl, eq1 V 101 rfl, eq1 V 100 rfl, eq2 V 99 rfl, eq1 V 98 rfl]
  rw [eq1 V 97 rfl, eq2 V 96 rfl, eq2 V 95 rfl, eq1 V 94 rfl, eq1 V 93 rfl, eq2 V 92 rfl, eq1 V 91 rfl, eq1 V 90 rfl, eq1 V 48 rfl, eq1 V 47 rfl, eq1 V 46 rfl, eq1 V 45 rfl]
  rw [eq1 V 44 rfl, eq1 V 43 rfl, eq1 V 42 rfl, eq1 V 41 rfl, eq1 V 40 rfl, eq1 V 39 rfl]
  rw [show val V main_arg1 = A1 V from rfl]
  rw [show val V main_arg4 = A4 V from rfl]
  show _ = diag (fun k => A4 V (ix3 b m k)) (fun k => A1 V (ix3 b a k))
  generalize A1 V = xA1
  generalize A4 V = xA4
  pointwise []
  rfl

/-- The squared distance of the centres. -/
theorem distV (b : Fin 16) (m : Fin 32) (a : Fin 8400) : r112 V (ix4 b m a 0) = distR ((img V b).gt m) ((img V b).pb a) := by
  unfold r112
  rw [eq2 V 127 rfl, eq1 V 126 rfl, eq0 V 125 rfl, eq2 V 124 rfl, eq2 V 123 rfl, eq2 V 122 rfl, eq1 V 121 rfl, eq2 V 120 rfl, eq1 V 119 rfl, eq1 V 118 rfl, eq2 V 117 rfl, eq2 V 116 rfl]
  rw [eq2 V 115 rfl, eq1 V 114 rfl, eq2 V 113 rfl, eq1 V 112 rfl, eq1 V 111 rfl, eq2 V 110 rfl, eq1 V 48 rfl, eq1 V 47 rfl, eq1 V 46 rfl, eq1 V 45 rfl, eq1 V 44 rfl, eq1 V 43 rfl]
  rw [eq1 V 42 rfl, eq1 V 41 rfl, eq1 V 40 rfl, eq1 V 39 rfl]
  rw [show val V main_arg1 = A1 V from rfl]
  rw [show val V main_arg4 = A4 V from rfl]
  show _ = distR (fun k => A4 V (ix3 b m k)) (fun k => A1 V (ix3 b a k))
  generalize A1 V = xA1
  generalize A4 V = xA4
  pointwise []
  rfl

/-- The proportion of an anchor's box. -/
theorem pprop (b : Fin 16) (a : Fin 8400) : r113 V (ix4 b 0 a 0) = Ideal.div (wid (((img V b).pb a) 0) (((img V b).pb a) 2)) (hgt (((img V b).pb a) 1) (((img V b).pb a) 3)) := by
  unfold r113
  rw [eq2 V 128 rfl, eq2 V 58 rfl, eq1 V 57 rfl, eq0 V 56 rfl, eq2 V 55 rfl, eq2 V 54 rfl, eq1 V 48 rfl, eq1 V 47 rfl, eq1 V 46 rfl, eq1 V 45 rfl, eq1 V 40 rfl]
  rw [show val V main_arg1 = A1 V from rfl]
  show _ = Ideal.div (wid ((fun k => A1 V (ix3 b a k)) 0) ((fun k => A1 V (ix3 b a k)) 2)) (hgt ((fun k => A1 V (ix3 b a k)) 1) ((fun k => A1 V (ix3 b a k)) 3))
  generalize A1 V = xA1
  pointwise []
  rfl

/-- The proportion of a ground-truth box. -/
theorem gprop (b : Fin 16) (m : Fin 32) : r191 V (ix4 b m 0 0) = Ideal.div (wid (((img V b).gt m) 0) (((img V b).gt m) 2)) (hgt (((img V b).gt m) 1) (((img V b).gt m) 3)) := by
  unfold r191
  rw [eq2 V 221 rfl, eq2 V 53 rfl, eq1 V 52 rfl, eq0 V 51 rfl, eq2 V 50 rfl, eq2 V 49 rfl, eq1 V 44 rfl, eq1 V 43 rfl, eq1 V 42 rfl, eq1 V 41 rfl, eq1 V 39 rfl]
  rw [show val V main_arg4 = A4 V from rfl]
  show _ = Ideal.div (wid ((fun k => A4 V (ix3 b m k)) 0) ((fun k => A4 V (ix3 b m k)) 2)) (hgt ((fun k => A4 V (ix3 b m k)) 1) ((fun k => A4 V (ix3 b m k)) 3))
  generalize A4 V = xA4
  pointwise []
  rfl

/-- The folded proportion of an anchor's box. -/
theorem pfold (b : Fin 16) (a : Fin 8400) : r119 V (ix4 b 0 a 0) = fold (r113 V (ix4 b 0 a 0)) := by
  unfold r119
  rw [eq3 V 136 rfl, eq2 V 135 rfl, eq1 V 134 rfl, eq0 V 133 rfl, eq2 V 132 rfl, eq1 V 131 rfl, eq0 V 130 rfl, eq1 V 129 rfl]
  rw [show val V main_v113 = r113 V from rfl]
  try simp -implicitDefEqProofs only [TRef.toBuf, TRef.ofBuf, cast_cast, cast_eq]
  generalize r113 V = xr113
  pointwise []
  rfl

/-- The polynomial at the proportion of an anchor's box. -/
theorem pseries (b : Fin 16) (a : Fin 8400) : r181 V (ix4 b 0 a 0) = series (r119 V (ix4 b 0 a 0)) := by
  unfold r181
  rw [eq2 V 208 rfl, eq2 V 207 rfl, eq1 V 206 rfl, eq0 V 205 rfl, eq2 V 204 rfl, eq2 V 203 rfl, eq2 V 202 rfl, eq2 V 201 rfl, eq2 V 200 rfl, eq2 V 199 rfl, eq2 V 198 rfl, eq1 V 197 rfl]
  rw [eq0 V 196 rfl, eq2 V 195 rfl, eq2 V 194 rfl, eq2 V 193 rfl, eq2 V 192 rfl, eq2 V 191 rfl, eq2 V 190 rfl, eq2 V 189 rfl, eq2 V 188 rfl, eq1 V 187 rfl, eq0 V 186 rfl, eq2 V 185 rfl]
  rw [eq2 V 184 rfl, eq2 V 183 rfl, eq2 V 182 rfl, eq2 V 181 rfl, eq2 V 180 rfl, eq2 V 179 rfl, eq1 V 178 rfl, eq0 V 177 rfl, eq2 V 176 rfl, eq2 V 175 rfl, eq2 V 174 rfl, eq2 V 173 rfl]
  rw [eq2 V 172 rfl, eq2 V 171 rfl, eq2 V 170 rfl, eq1 V 169 rfl, eq0 V 168 rfl, eq2 V 167 rfl, eq2 V 166 rfl, eq2 V 165 rfl, eq2 V 164 rfl, eq2 V 163 rfl, eq2 V 162 rfl, eq1 V 161 rfl]
  rw [eq0 V 160 rfl, eq2 V 159 rfl, eq2 V 158 rfl, eq2 V 157 rfl, eq2 V 156 rfl, eq2 V 155 rfl, eq2 V 154 rfl, eq1 V 153 rfl, eq0 V 152 rfl, eq2 V 151 rfl, eq2 V 150 rfl, eq2 V 149 rfl]
  rw [eq2 V 148 rfl, eq2 V 147 rfl, eq1 V 146 rfl, eq0 V 145 rfl, eq2 V 144 rfl, eq2 V 143 rfl, eq2 V 142 rfl, eq1 V 141 rfl, eq0 V 140 rfl, eq2 V 139 rfl, eq1 V 138 rfl, eq0 V 137 rfl]
  rw [show val V main_v119 = r119 V from rfl]
  generalize r119 V = xr119
  pointwise []
  unfold series
  rw [zero_add, one_mul]

/-- The angle of an anchor's box. -/
theorem patan (b : Fin 16) (a : Fin 8400) : r190 V (ix4 b 0 a 0) = atan series (r113 V (ix4 b 0 a 0)) := by
  have h : r181 V (ix4 b 0 a 0) = series (fold (r113 V (ix4 b 0 a 0))) := by rw [pseries, pfold]
  unfold r190
  rw [eq3 V 220 rfl, eq1 V 219 rfl, eq2 V 218 rfl, eq1 V 217 rfl, eq0 V 216 rfl, eq3 V 215 rfl, eq2 V 214 rfl, eq1 V 213 rfl, eq0 V 212 rfl, eq2 V 211 rfl, eq1 V 210 rfl, eq0 V 209 rfl]
  rw [eq1 V 129 rfl]
  rw [show val V main_v113 = r113 V from rfl]
  rw [show val V main_v181 = r181 V from rfl]
  try simp -implicitDefEqProofs only [TRef.toBuf, TRef.ofBuf, cast_cast, cast_eq]
  generalize r113 V = xr113 at h ⊢
  generalize r181 V = xr181 at h ⊢
  pointwise [h]
  rfl

/-- The folded proportion of a ground-truth box. -/
theorem gfold (b : Fin 16) (m : Fin 32) : r197 V (ix4 b m 0 0) = fold (r191 V (ix4 b m 0 0)) := by
  unfold r197
  rw [eq3 V 229 rfl, eq2 V 228 rfl, eq1 V 227 rfl, eq0 V 226 rfl, eq2 V 225 rfl, eq1 V 224 rfl, eq0 V 223 rfl, eq1 V 222 rfl]
  rw [show val V main_v191 = r191 V from rfl]
  try simp -implicitDefEqProofs only [TRef.toBuf, TRef.ofBuf, cast_cast, cast_eq]
  generalize r191 V = xr191
  pointwise []
  rfl

/-- The polynomial at the proportion of a ground-truth box. -/
theorem gseries (b : Fin 16) (m : Fin 32) : r259 V (ix4 b m 0 0) = series (r197 V (ix4 b m 0 0)) := by
  unfold r259
  rw [eq2 V 301 rfl, eq2 V 300 rfl, eq1 V 299 rfl, eq0 V 298 rfl, eq2 V 297 rfl, eq2 V 296 rfl, eq2 V 295 rfl, eq2 V 294 rfl, eq2 V 293 rfl, eq2 V 292 rfl, eq2 V 291 rfl, eq1 V 290 rfl]
  rw [eq0 V 289 rfl, eq2 V 288 rfl, eq2 V 287 rfl, eq2 V 286 rfl, eq2 V 285 rfl, eq2 V 284 rfl, eq2 V 283 rfl, eq2 V 282 rfl, eq2 V 281 rfl, eq1 V 280 rfl, eq0 V 279 rfl, eq2 V 278 rfl]
  rw [eq2 V 277 rfl, eq2 V 276 rfl, eq2 V 275 rfl, eq2 V 274 rfl, eq2 V 273 rfl, eq2 V 272 rfl, eq1 V 271 rfl, eq0 V 270 rfl, eq2 V 269 rfl, eq2 V 268 rfl, eq2 V 267 rfl, eq2 V 266 rfl]
  rw [eq2 V 265 rfl, eq2 V 264 rfl, eq2 V 263 rfl, eq1 V 262 rfl, eq0 V 261 rfl, eq2 V 260 rfl, eq2 V 259 rfl, eq2 V 258 rfl, eq2 V 257 rfl, eq2 V 256 rfl, eq2 V 255 rfl, eq1 V 254 rfl]
  rw [eq0 V 253 rfl, eq2 V 252 rfl, eq2 V 251 rfl, eq2 V 250 rfl, eq2 V 249 rfl, eq2 V 248 rfl, eq2 V 247 rfl, eq1 V 246 rfl, eq0 V 245 rfl, eq2 V 244 rfl, eq2 V 243 rfl, eq2 V 242 rfl]
  rw [eq2 V 241 rfl, eq2 V 240 rfl, eq1 V 239 rfl, eq0 V 238 rfl, eq2 V 237 rfl, eq2 V 236 rfl, eq2 V 235 rfl, eq1 V 234 rfl, eq0 V 233 rfl, eq2 V 232 rfl, eq1 V 231 rfl, eq0 V 230 rfl]
  rw [show val V main_v197 = r197 V from rfl]
  generalize r197 V = xr197
  pointwise []
  unfold series
  rw [zero_add, one_mul]

/-- The angle of a ground-truth box. -/
theorem gatan (b : Fin 16) (m : Fin 32) : r268 V (ix4 b m 0 0) = atan series (r191 V (ix4 b m 0 0)) := by
  have h : r259 V (ix4 b m 0 0) = series (fold (r191 V (ix4 b m 0 0))) := by rw [gseries, gfold]
  unfold r268
  rw [eq3 V 313 rfl, eq1 V 312 rfl, eq2 V 311 rfl, eq1 V 310 rfl, eq0 V 309 rfl, eq3 V 308 rfl, eq2 V 307 rfl, eq1 V 306 rfl, eq0 V 305 rfl, eq2 V 304 rfl, eq1 V 303 rfl, eq0 V 302 rfl]
  rw [eq1 V 222 rfl]
  rw [show val V main_v191 = r191 V from rfl]
  rw [show val V main_v259 = r259 V from rfl]
  try simp -implicitDefEqProofs only [TRef.toBuf, TRef.ofBuf, cast_cast, cast_eq]
  generalize r191 V = xr191 at h ⊢
  generalize r259 V = xr259 at h ⊢
  pointwise [h]
  rfl

/-- The mismatch of the proportions. -/
theorem aspectR (b : Fin 16) (m : Fin 32) (a : Fin 8400) : r274 V (ix4 b m a 0) = aspect series ((img V b).gt m) ((img V b).pb a) := by
  have p := patan V b a
  have g := gatan V b m
  rw [pprop] at p
  rw [gprop] at g
  unfold r274
  rw [eq2 V 320 rfl, eq1 V 319 rfl, eq0 V 318 rfl, eq2 V 317 rfl, eq2 V 316 rfl, eq1 V 315 rfl, eq1 V 314 rfl]
  rw [show val V main_v190 = r190 V from rfl]
  rw [show val V main_v268 = r268 V from rfl]
  generalize r190 V = xr190 at p g ⊢
  generalize r268 V = xr268 at p g ⊢
  pointwise [p, g]
  rfl

/-- The score. -/
theorem scoreV (b : Fin 16) (m : Fin 32) (a : Fin 8400) : r282 V (ix4 b m a 0) = scoreR ((img V b).gt m) ((img V b).pb a) := by
  have e1 := aspectR V b m a
  have e2 := iouR V b m a
  have e3 := diagR V b m a
  have e4 := distV V b m a
  unfold r282
  rw [eq2 V 329 rfl, eq2 V 328 rfl, eq2 V 327 rfl, eq2 V 326 rfl, eq2 V 325 rfl, eq2 V 324 rfl, eq1 V 323 rfl, eq0 V 322 rfl, eq2 V 321 rfl]
  rw [show val V main_v112 = r112 V from rfl]
  rw [show val V main_v274 = r274 V from rfl]
  rw [show val V main_v76 = r76 V from rfl]
  rw [show val V main_v95 = r95 V from rfl]
  generalize r112 V = xr112 at e1 e2 e3 e4 ⊢
  generalize r274 V = xr274 at e1 e2 e3 e4 ⊢
  generalize r76 V = xr76 at e1 e2 e3 e4 ⊢
  generalize r95 V = xr95 at e1 e2 e3 e4 ⊢
  pointwise [e1, e2, e3, e4]
  rfl

/-- The score without its last axis. -/
theorem scoreW (b : Fin 16) (m : Fin 32) (a : Fin 8400) : r283 V (ix3 b m a) = scoreR ((img V b).gt m) ((img V b).pb a) := by
  have e := scoreV V b m a
  have h : r283 V = shapeCast S16x32x8400 (r282 V) (by decide) := eqR V 330 rfl
  rw [h]
  generalize r282 V = x at e ⊢
  pointwise [e]

end Cert.Proof.Ref
end
-- ==== Proof.RefVal.lean ====
/- The reference's results, image by image. -/
module

public import proofs.«01_k».proof.Proof.RefCount
public import proofs.«01_k».proof.Proof.RefMark
public import proofs.«01_k».proof.Proof.RefPick
public import proofs.«01_k».proof.Proof.RefNorm
public import proofs.«01_k».proof.Proof.RefLast
public import proofs.«01_k».proof.Proof.Spec
public import proofs.«01_k».proof.Proof.Arg
public import Idealize.ShloMosaic.Lib.Pointwise
public import Idealize.ShloMosaic.Lib.Tactic.CleanTypes
public import proofs.«01_k».proof.Proof.RefScore

@[expose] public section

set_option maxRecDepth 16384
set_option pp.maxSteps 1000

noncomputable section

namespace Cert.Proof.Ref

open Idealize.ShloMosaic Idealize.SL.Sem Idealize.ShloMosaic.StableHlo Cert.ReferenceIdeal
open Cert.Proof.Line Cert.Proof.Spec Cert.Proof.Scalar Cert.Proof.Arg Cert.Proof.Rank

attribute [local instance] Cert.ReferenceIdeal.Gen.facts

variable (V : Valuation τ sig (Elt Ideal))

variable (b : Fin 16) (hI : (img V b).Valid)
include hI

/-- The score of a pair that counts. -/
theorem score_at (m : Fin 32) (a : Fin 8400) [Decidable (On (img V b) m a)] :
    r30 V (ix3 b m a) = if On (img V b) m a then (img V b).ps a (cls (img V b) m) else (0 : EReal) := by
  rw [scored, table V b hI]
  exact if_congr (on V b hI m a) rfl rfl

/-- The overlap of a pair. -/
theorem ovl_at (m : Fin 32) (a : Fin 8400) : r286 V (ix3 b m a) = ovl (img V b) m a := by
  classical
  rw [step286, scoreW]
  unfold ovl
  exact if_congr (on V b hI m a) rfl rfl

/-- How well a pair fits. -/
theorem al_at (m : Fin 32) (a : Fin 8400) : r291 V (ix3 b m a) = al (img V b) m a := by
  classical
  rw [step291, score_at V b hI, ovl_at V b hI, pow_one]
  unfold al
  obtain ⟨r, -, e⟩ := ovl_real hI m a
  rw [e, pow_six]

omit hI in
theorem row_split (r : Fin 512) : ∃ (b : Fin 16) (m : Fin 32), r = row b m := by
  have := r.2
  exact ⟨⟨r.1 / 32, by omega⟩, ⟨r.1 % 32, by omega⟩, Fin.ext (by show r.1 = r.1 / 32 * 32 + r.1 % 32; omega)⟩

omit hI in
/-- An anchor is once among thirteen of different ranks if its own rank is one of them. -/
theorem chosen (f : Fin 8400 → EReal) (q : Fin 13 → Fin 8400) (hq : ∀ k, rank f (q k) = k.1) (a : Fin 8400) :
    (∑ k : Fin 13, if q k = a then 1 else 0) = if rank f a < 13 then 1 else 0 := by
  by_cases h : rank f a < 13
  · rw [if_pos h, Finset.sum_eq_single ⟨rank f a, h⟩, if_pos]
    · exact rank_inj f (hq _)
    · intro k _ ne
      refine if_neg fun e => ne (Fin.ext ?_)
      rw [← hq k, e]
    · exact fun h => absurd (Finset.mem_univ _) h
  · rw [if_neg h]
    refine Finset.sum_eq_zero fun k _ => if_neg fun e => h ?_
    rw [← e, hq k]
    exact k.2

omit hI in
/-- The count of the choices of an anchor by a marked box. -/
theorem count_at (m : Fin 32) (a : Fin 8400) (hm : A5 V (ix3 b m 0) ≠ (0 : EReal)) :
    r315 V (ix2 (row b m) a) = BitVec.ofNat 32 (if rank (fun a => r291 V (ix3 b m a)) a < 13 then 1 else 0) := by
  classical
  choose q hq hr using fun b m k => stepIdx V b m k
  let p : Fin 512 → Fin 13 → Fin 8400 := fun r k =>
    if A5 V (ix3 (⟨r.1 / 32, by omega⟩ : Fin 16) (⟨r.1 % 32, by omega⟩ : Fin 32) 0) ≠ (0 : EReal) then q ⟨r.1 / 32, by omega⟩ ⟨r.1 % 32, by omega⟩ k else 0
  have hp : ∀ b m k, p (row b m) k = if A5 V (ix3 b m 0) ≠ (0 : EReal) then q b m k else 0 := by
    intro b m k
    simp only [p, row_div, row_mod]
  have h1 : ∀ b m k, r296 V (ix2 (row b m) k) = BitVec.ofNat 32 (p (row b m) k).1 := by
    intro b m k
    rw [step296, step295, hp, hq]
    split <;> rfl
  rw [step315 V p (step313a V) (fun r k => by
    obtain ⟨b, m, rfl⟩ := row_split r
    have := (p (row b m) k).2
    rw [step313b, h1]
    rw [h1, BitVec.toNat_ofNat]
    omega)]
  simp only [hp, if_pos hm]
  rw [chosen _ _ (hr b m) a]

/-- The mark of a pair. -/
theorem mp_at (m : Fin 32) (a : Fin 8400) : r324 V (ix3 b m a) = mp (img V b) m a := by
  classical
  rw [step324, flagU, step320, step319, step318]
  unfold mp
  show _ * A5 V (ix3 b m 0) = _ * A5 V (ix3 b m 0)
  by_cases hm : A5 V (ix3 b m 0) = (0 : EReal)
  · rw [hm, mul_zero, mul_zero]
  · rw [count_at V b m a hm]
    simp only [al_at V b hI]
    refine congrArg (· * A5 V (ix3 b m 0)) (congrArg₂ (· * ·) ?_ ?_)
    · by_cases h : rank (fun a => al (img V b) m a) a < 13
      · rw [if_pos h, if_pos h]
        show (((1#32 : BitVec 32).toInt : ℝ) : EReal) = 1
        norm_num
      · rw [if_neg h, if_neg h]
        show (((0#32 : BitVec 32).toInt : ℝ) : EReal) = 0
        norm_num
    · exact if_congr (inside V b hI m a) rfl rfl

/-- The mark of a pair, an anchor of several boxes given to one. -/
theorem mp2_at (m : Fin 32) (a : Fin 8400) : r332 V (ix3 b m a) = mp2 (img V b) m a := by
  classical
  rw [step332, step325, step330, flagU]
  simp only [mp_at V b hI, ovl_at V b hI]
  unfold mp2
  refine if_congr Iff.rfl (if_congr ?_ rfl rfl) rfl
  have h1 := m.2
  have h2 := (first fun m => ovl (img V b) m a).2
  show BitVec.ofBool (BitVec.ofNat 32 _ == BitVec.ofNat 32 _) = 1#1 ↔ _
  rw [show ∀ c : Bool, BitVec.ofBool c = 1#1 ↔ c = true from by decide, beq_iff_eq, ofNat_inj (by omega) (by omega)]
  exact ⟨fun e => Fin.ext e.symm, fun e => (congrArg Fin.val e).symm⟩

/-- How many boxes an anchor has. -/
theorem fg_at (a : Fin 8400) : r333 V (ix2 b a) = fg (img V b) a := by
  rw [step333]
  exact Finset.sum_congr rfl fun m _ => mp2_at V b hI m a

/-- The row of the box an anchor is given. -/
theorem row_at (a : Fin 8400) : r340 V (ix2 b a) = BitVec.ofNat 32 (row b (tg (img V b) a)).1 := by
  rw [step340, step334]
  simp only [mp2_at V b hI]
  show BitVec.ofNat 32 (tg (img V b) a).1 + BitVec.ofNat 32 b.1 * BitVec.ofNat 32 32 = BitVec.ofNat 32 (b.1 * 32 + (tg (img V b) a).1)
  rw [← BitVec.ofNat_mul, ← BitVec.ofNat_add, Nat.add_comm]

theorem row_small (a : Fin 8400) : (r340 V (ix2 b a)).toNat < 512 := by
  rw [row_at V b hI, BitVec.toNat_ofNat]
  have := (row b (tg (img V b) a)).2
  omega

/-- The box an anchor is given. -/
theorem box_at (a : Fin 8400) (k : Fin 4) : r358 V (ix3 b a k) = (img V b).gt (tg (img V b) a) k := by
  rw [step358 V b a k (row b (tg (img V b) a)) (by rw [step357 V b a (row_small V b hI a), row_at V b hI]), step351]
  rfl

/-- The class of the box an anchor is given. -/
theorem cls_at (a : Fin 8400) (c : Fin 80) [Decidable (cls (img V b) (tg (img V b) a) = c)] :
    r359 V (ix3 b a c) = if cls (img V b) (tg (img V b) a) = c then (1 : EReal) else 0 := by
  rw [step359, flagU, step350, step348 V b a (row b (tg (img V b) a)) (by rw [step347 V b a (row_small V b hI a), row_at V b hI]), step341]
  have hv : (A3 V (ix3 b (tg (img V b) a) 0)).toNat < 80 := hI.lab _
  have hc : (cls (img V b) (tg (img V b) a)).1 = (A3 V (ix3 b (tg (img V b) a) 0)).toNat := Nat.mod_eq_of_lt hv
  refine if_congr ?_ rfl rfl
  generalize cls (img V b) (tg (img V b) a) = d at hc ⊢
  generalize A3 V (ix3 b (tg (img V b) a) 0) = l at hv hc ⊢
  have hl : l = BitVec.ofNat 32 d.1 := by
    rw [hc, BitVec.ofNat_toNat, BitVec.setWidth_eq]
  have hmax : IntOp.maxsi l 0#32 = l := by
    unfold IntOp.maxsi
    split
    · rfl
    · rename_i h
      rw [BitVec.slt_iff_toInt_lt, BitVec.toInt_eq_toNat_of_lt (x := l) (by omega)] at h
      have z : (0#32 : BitVec 32).toInt = 0 := by decide
      refine (BitVec.eq_of_toNat_eq ?_).symm
      have : (0#32 : BitVec 32).toNat = 0 := rfl
      omega
  rw [hmax, hl]
  have h1 := c.2
  have h2 := d.2
  show BitVec.ofBool (BitVec.ofNat 32 _ == BitVec.ofNat 32 _) = 1#1 ↔ _
  rw [show ∀ c : Bool, BitVec.ofBool c = 1#1 ↔ c = true from by decide, beq_iff_eq, ofNat_inj (by omega) (by omega)]
  exact ⟨fun e => Fin.ext e, fun e => congrArg Fin.val e⟩

/-- The best fit and the best overlap of a box. -/
theorem best_at (m : Fin 32) : r366 V (ix2 b m) = bestAl (img V b) m ∧ r369 V (ix2 b m) = bestOvl (img V b) m := by
  rw [step366, step369]
  simp only [step365, step368, mp2_at V b hI, ovl_at V b hI, al_at V b hI]
  exact ⟨rfl, rfl⟩

/-- The weight of an anchor. -/
theorem norm_at (a : Fin 8400) : r377 V (ix2 b a) = norm (img V b) a := by
  rw [step377]
  simp only [step376, step375, step374, step373, step372, step371, step367, step365, (best_at V b hI _).1, (best_at V b hI _).2,
    mp2_at V b hI, al_at V b hI]
  rfl

/-- The target scores. -/
theorem ts_at (a : Fin 8400) (c : Fin 80) : r380 V (ix3 b a c) = ts (img V b) a c := by
  classical
  rw [step380, step364, norm_at V b hI, cls_at V b hI, fg_at V b hI]
  unfold ts
  by_cases h : 0 < fg (img V b) a <;> by_cases h' : cls (img V b) (tg (img V b) a) = c
  · rw [if_pos h, if_pos h', if_pos ⟨h, h'⟩, one_mul]
  · rw [if_pos h, if_neg h', if_neg fun e => h' e.2, zero_mul]
  · rw [if_neg h, if_neg fun e => h e.1, zero_mul]
  · rw [if_neg h, if_neg fun e => h e.1, zero_mul]

/-- The anchors that have a box. -/
theorem mask_at (a : Fin 8400) : r383 V (ix2 b a) = BitVec.ofBool (@decide (fg (img V b) a ≠ 0) (Classical.dec _)) := by
  rw [step383, fg_at V b hI]
  congr

end Cert.Proof.Ref
end
-- ==== Proof.RefFin.lean ====
/- The run of the reference, read. -/
module

public import proofs.«01_k».proof.Proof.RefEq
public import Idealize.ShloMosaic.Lib.Quiescent

@[expose] public section

set_option maxRecDepth 16384

noncomputable section

namespace Cert.Proof.Ref

open Idealize.ShloMosaic Idealize.SL.Sem Idealize.ShloMosaic.StableHlo Cert.ReferenceIdeal
open Cert.Proof.Line

attribute [local instance] Cert.ReferenceIdeal.Gen.facts

variable (m : (ℓ : Loc nD τ sig) → Buf (Elt Ideal) ℓ) (ρ : Dev nD → PrngReg)

/-- The reference ends with every buffer at its value, of what the launch finds. -/
theorem run : θ_run (defs (F := Ideal)) (onTc (τ := τ) (main (F := Ideal))) ⟨m, fun _ => 0, ρ⟩ fun r =>
    ∀ (d : Dev nD) (b : Ref sig .tc), r.2.mem ((d.tc : Thread nD τ).loc b) = val (launchContents m d) b :=
  run_seq (by decide) (by decide) defs main (fun _ => line.1) (fun d => (line.2 d).1)
    (fun _ => List.forall_iff_forall_mem.mpr (Ordered.bufs _ (line.2 0).2)) m ρ (fun _ => Ordered.fresh _ (line.2 0).2)

/-- An argument ends as it was launched. -/
theorem val_arg (d : Dev nD) (b : Ref sig .tc) (h : b.idx.1 < 6) :
    val (launchContents m d) b = m ((d.tc : Thread nD τ).loc b) :=
  Ordered.keep b line.1 (launchContents m d) (line.2 0).2 h

/-- The reference leaves its arguments alone and its machine at rest. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h c _).trans (val_arg m c _ (by decide)), (h c _).trans (val_arg m c _ (by decide)),
    (h c _).trans (val_arg m c _ (by decide)), (h c _).trans (val_arg m c _ (by decide)), (h c _).trans (val_arg m c _ (by decide)),
    (h c _).trans (val_arg m c _ (by decide))⟩, sem_eq_zero_of_no_sems (by decide) r.2⟩) (run m ρ)

end Cert.Proof.Ref
end
-- ==== Proof.Pre.lean ====
/- What the precondition says of an image. -/
module

public import proofs.«01_k».proof.Defs
public import proofs.«01_k».proof.Proof.Spec
public import proofs.«01_k».proof.Proof.Arg
public import Idealize.ShloMosaic.Lib.Pointwise
public import Idealize.ShloMosaic.Lib.ReduceAll
public import Idealize.ShloMosaic.Lib.StableHlo.Predicate

@[expose] public section

set_option maxRecDepth 16384
set_option pp.maxSteps 400

noncomputable section

namespace Cert.Proof.Pre

open Idealize.ShloMosaic Cert.Pre_valid Cert.Proof.Spec Cert.Proof.Arg

/-- The shape relations the precondition's operations take. -/
theorem facts : Cert.Pre_valid.Facts where
  bcast_S_S16x8400x80 := by decide
  reducesTo_S16x8400x80_S_d0_1_2 := by decide
  h_S_ := by decide
  bcast_S_S16x8400x4 := by decide
  reducesTo_S16x8400x4_S_d0_1_2 := by decide
  bcast_S_S16x32x4 := by decide
  reducesTo_S16x32x4_S_d0_1_2 := by decide
  bcast_S_S16x32x1 := by decide
  reducesTo_S16x32x1_S_d0_1_2 := by decide

attribute [local instance] facts

variable (x0 : FVec Ideal S16x8400x80 .f32) (x1 : FVec Ideal S16x8400x4 .f32) (x2 : FVec Ideal S8400x2 .f32)
  (x3 : IVec S16x32x1 32) (x4 : FVec Ideal S16x32x4 .f32) (x5 : FVec Ideal S16x32x1 .f32)

/-- One image of the arguments. -/
def img (b : Fin 16) : Image where
  ps a c := x0 (ix3 b a c)
  pb a k := x1 (ix3 b a k)
  an a k := x2 (ix2 a k)
  lab m := x3 (ix3 b m 0)
  gt m k := x4 (ix3 b m k)
  mg m := x5 (ix3 b m 0)

/-- An extended real of absolute value below infinity is a real number. -/
theorem real_of (x : EReal) (h : max x (-x) < ⊤) : ∃ r : ℝ, x = r := by
  induction x using EReal.rec with
  | bot => simp at h
  | top => simp at h
  | coe r => exact ⟨r, rfl⟩

instance : Subsingleton S_.Idx := ⟨fun i j => funext fun a => a.elim0⟩

/-- A zero literal. -/
theorem lit_zero : Ideal.ofBits .f32 0x00000000#32 = 0 := by simp [Ideal.ofBits, Ideal.ieee]

/-- The infinite literal. -/
theorem lit_top : Ideal.ofBits .f32 0x7F800000#32 = ⊤ := by simp [Ideal.ofBits, Ideal.ieee]

/-- Under the precondition every score is at least zero, every coordinate a real number and every label a class. -/
theorem valid (h : fn (F := Ideal) x0 x1 x2 x3 x4 x5 = fun _ => 1#1) (b : Fin 16) : (img x0 x1 x2 x3 x4 x5 b).Valid := by
  have e := congrFun h ix0
  unfold fn fn_part1 at e
  dsimp only at e
  have an : ∀ x y : IVec S_ 1, andi x y ix0 = 1#1 ↔ x ix0 = 1#1 ∧ y ix0 = 1#1 := fun x y => andi_one _ _
  rw [an, an, an, an] at e
  obtain ⟨⟨⟨⟨e0, e1⟩, e4⟩, e3⟩, e3'⟩ := e
  have e0 := Host.reduce_andi_all _ _ _ _ _ e0
  have e1 := Host.reduce_andi_all _ _ _ _ _ e1
  have e4 := Host.reduce_andi_all _ _ _ _ _ e4
  have e3 := Host.reduce_andi_all _ _ _ _ _ e3
  have e3' := Host.reduce_andi_all _ _ _ _ _ e3'
  refine ⟨fun a c => ?_, fun a => ?_, fun m => ?_, fun m => ?_⟩
  · have q := e0 (ix3 b a c)
    have q : BitVec.ofBool (decide (Ideal.ofBits .f32 0x00000000#32 ≤ (x0 (ix3 b a c) : EReal))) = 1#1 := q
    rw [ofBool_one, lit_zero] at q
    exact q
  · have q : ∀ k, ∃ r : ℝ, (x1 (ix3 b a k) : EReal) = r := fun k => by
      have q := e1 (ix3 b a k)
      have q : BitVec.ofBool (decide (max (x1 (ix3 b a k) : EReal) (-(x1 (ix3 b a k) : EReal)) < Ideal.ofBits .f32 0x7F800000#32)) = 1#1 := q
      rw [ofBool_one, lit_top] at q
      exact real_of _ q
    choose p hp using q
    exact ⟨p, funext hp⟩
  · have q : ∀ k, ∃ r : ℝ, (x4 (ix3 b m k) : EReal) = r := fun k => by
      have q := e4 (ix3 b m k)
      have q : BitVec.ofBool (decide (max (x4 (ix3 b m k) : EReal) (-(x4 (ix3 b m k) : EReal)) < Ideal.ofBits .f32 0x7F800000#32)) = 1#1 := q
      rw [ofBool_one, lit_top] at q
      exact real_of _ q
    choose p hp using q
    exact ⟨p, funext hp⟩
  · have q := e3 (ix3 b m 0)
    have q' := e3' (ix3 b m 0)
    have q : IntOp.cmpi .sge (x3 (ix3 b m 0)) 0#32 = 1#1 := q
    have q' : IntOp.cmpi .slt (x3 (ix3 b m 0)) 80#32 = 1#1 := q'
    show (x3 (ix3 b m 0)).toNat < 80
    generalize x3 (ix3 b m 0) = l at q q'
    unfold IntOp.cmpi at q q'
    simp only [StableHlo.Predicate.ofBool_eq_one_iff, BitVec.sle, BitVec.slt, decide_eq_true_eq] at q q'
    have z : (0#32 : BitVec 32).toInt = 0 := by decide
    have z' : (80#32 : BitVec 32).toInt = 80 := by decide
    rw [z] at q
    rw [z'] at q'
    have hl := l.isLt
    have e := BitVec.toInt_eq_toNat_cond l
    split at e <;> omega

end Cert.Proof.Pre
end
-- ==== Proof.Alg.lean ====
/- The kernel and the reference end with equal results. -/
module

public import proofs.«01_k».proof.Proof.KRun
public import proofs.«01_k».proof.Proof.RefVal
public import proofs.«01_k».proof.Proof.RefFin
public import proofs.«01_k».proof.Proof.Pre

@[expose] public section

set_option maxRecDepth 16384
set_option pp.maxSteps 600

noncomputable section

namespace Cert.Proof.Alg

open Idealize.ShloMosaic Idealize.SL.Sem Idealize.ShloMosaic.StableHlo
open Cert.Proof.Line Cert.Proof.Spec Cert.Proof.Arg

attribute [local instance] Cert.KernelIdeal.Gen.facts Cert.ReferenceIdeal.Gen.facts Cert.Proof.Pre.facts

/-- From equal arguments the two programs read the same image. -/
theorem same_image (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (h0 : Ref.A0 V = Ker.a0 m c) (h1 : Ref.A1 V = Ker.a1 m c) (h2 : Ref.A2 V = Ker.a2 m c) (h3 : Ref.A3 V = Ker.a3 m c)
    (h4 : Ref.A4 V = Ker.a4 m c) (h5 : Ref.A5 V = Ker.a5 m c) (b : Fin 16) : Ref.img V b = Ker.image m c b := by
  unfold Ref.img Ker.image
  rw [h0, h1, h2, h3, h4, h5]

/-- If the two programs read the same images, the reference's results are the kernel's. -/
theorem same_results (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (hI : ∀ b, (Ker.image m c b).Valid) (e : ∀ b, Ref.img V b = Ker.image m c b) :
    Ref.r358 V = Ker.boxes m c ∧ Ref.r380 V = Ker.scores m c ∧ Ref.r383 V = Ker.mask m c := by
  have hV : ∀ b, (Ref.img V b).Valid := fun b => e b ▸ hI b
  refine ⟨funext fun i => ?_, funext fun i => ?_, funext fun i => ?_⟩
  · obtain ⟨b, a, k, rfl⟩ : ∃ (b : Fin 16) (a : Fin 8400) (k : Fin 4), i = ix3 b a k := ⟨i 0, i 1, i 2, by blk_ext⟩
    refine (Ref.box_at V b (hV b) a k).trans ?_
    rw [e b]
    rfl
  · obtain ⟨b, a, k, rfl⟩ : ∃ (b : Fin 16) (a : Fin 8400) (k : Fin 80), i = ix3 b a k := ⟨i 0, i 1, i 2, by blk_ext⟩
    refine (Ref.ts_at V b (hV b) a k).trans ?_
    rw [e b]
    rfl
  · obtain ⟨b, a, rfl⟩ : ∃ (b : Fin 16) (a : Fin 8400), i = ix2 b a := ⟨i 0, i 1, by blk_ext⟩
    refine (Ref.mask_at V b (hV b) a).trans ?_
    rw [e b]
    rfl

/-- Under the precondition the kernel and the reference, from equal arguments, end with equal results. -/
theorem algebraic : Cert.algebraic_KernelIdeal_ReferenceIdeal_pre_valid := by
  intro m g m' g' hp ha
  have hI : ∀ c b, (Ker.image m c b).Valid := fun c b => Pre.valid _ _ _ _ _ _ (hp c) b
  have hs := fun c => same_results m (launchContents m' c) c (hI c) (same_image m (launchContents m' c) c
    ((Ref.val_arg m' c _ (by decide)).trans (ha c).1) ((Ref.val_arg m' c _ (by decide)).trans (ha c).2.1)
    ((Ref.val_arg m' c _ (by decide)).trans (ha c).2.2.1) ((Ref.val_arg m' c _ (by decide)).trans (ha c).2.2.2.1)
    ((Ref.val_arg m' c _ (by decide)).trans (ha c).2.2.2.2.1) ((Ref.val_arg m' c _ (by decide)).trans (ha c).2.2.2.2.2))
  refine ⟨Ker.boxes m, Ker.scores m, Ker.mask m, Ker.run m hI g, ?_⟩
  exact (θ_run Cert.ReferenceIdeal.defs _ _).mono (fun r h c => ⟨(h c _).trans (hs c).1, (h c _).trans (hs c).2.1, (h c _).trans (hs c).2.2,
    (h c _).trans (Ref.val_arg m' c _ (by decide)), (h c _).trans (Ref.val_arg m' c _ (by decide)),
    (h c _).trans (Ref.val_arg m' c _ (by decide)), (h c _).trans (Ref.val_arg m' c _ (by decide)),
    (h c _).trans (Ref.val_arg m' c _ (by decide)), (h c _).trans (Ref.val_arg m' c _ (by decide))⟩) (Ref.run m' g')

end Cert.Proof.Alg
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The three programs leave their arguments alone and their machines at rest; the kernel read over the reals is the
    kernel; and under the precondition kernel and reference end with equal results. -/
theorem claim : Cert.Claim := ⟨Cert.Kernel.Gen.facts, Cert.KernelIdeal.Gen.facts, Cert.ReferenceIdeal.Gen.facts, Cert.Proof.Pre.facts,
  fun m g _ => Cert.Kernel.Gen.frame m g,
  fun m g _ => Cert.KernelIdeal.Gen.frame m g,
  fun m g _ => Cert.KernelIdeal.Gen.frame m g,
  fun m g _ => Ref.frame m g,
  fun m g _ => Ref.frame m g,
  trivial,
  Alg.algebraic⟩

end Cert.Proof

end
